-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S36x64x256 : Shape := ⟨3, ![36, 64, 256]⟩
abbrev S36 : Shape := ⟨1, ![36]⟩
abbrev S_ : Shape := ⟨0, ![]⟩
abbrev S64x2048 : Shape := ⟨2, ![64, 2048]⟩
abbrev S2048x256 : Shape := ⟨2, ![2048, 256]⟩
abbrev S64x256 : Shape := ⟨2, ![64, 256]⟩
abbrev S1x64x256 : Shape := ⟨3, ![1, 64, 256]⟩
abbrev S1 : Shape := ⟨1, ![1]⟩
abbrev S256x2048 : Shape := ⟨2, ![256, 2048]⟩

abbrev nBuf : Space → Nat
  | .hbm => 8
  | .vmem => 10
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S1024x2048, .f32⟩
  | .local _ .vmem, ⟨2, _⟩ => ⟨S2048x1024, .f32⟩
  | .local _ .vmem, ⟨3, _⟩ => ⟨S1024x2048, .f32⟩
  | .local _ .vmem, ⟨4, _⟩ => ⟨S2048x1024, .f32⟩
  | .local _ .vmem, ⟨5, _⟩ => ⟨S1024x2048, .f32⟩
  | .local _ .vmem, ⟨6, _⟩ => ⟨S2048x1024, .f32⟩
  | .local _ .vmem, ⟨7, _⟩ => ⟨S64x1024, .f32⟩
  | .local _ .vmem, ⟨8, _⟩ => ⟨S36x64x256, .bf16⟩
  | .local _ .vmem, ⟨9, _⟩ => ⟨S36x64x256, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_17 : BitVec 32 := 1#32
  let v28 : BitVec 32 := Scalar.xori v2 c1_i32_17
  let c1_i32_25 : BitVec 32 := 1#32
  let v33 : BitVec 32 := Scalar.muli v28 c1_i32_25
  let v34 : BitVec 32 := Scalar.addi c0_i32_26 v33
  v34.toNat
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v45 : BitVec 32 := Scalar.xori v2 c1_i32_32
  let c1_i32_39 : BitVec 32 := 1#32
  let v50 : BitVec 32 := Scalar.muli v45 c1_i32_39
  let v51 : BitVec 32 := Scalar.addi c0_i32_40 v50
  v51.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_46 : BitVec 32 := 1#32
  let v62 : BitVec 32 := Scalar.xori v2 c1_i32_46
  let c1_i32_52 : BitVec 32 := 1#32
  let v67 : BitVec 32 := Scalar.muli v62 c1_i32_52
  let v68 : BitVec 32 := Scalar.addi c0_i32_53 v67
  v68.toNat
def k0_dev7 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_59 : BitVec 32 := 1#32
  let v79 : BitVec 32 := Scalar.xori v2 c1_i32_59
  let c1_i32_66 : BitVec 32 := 1#32
  let v84 : BitVec 32 := Scalar.muli v79 c1_i32_66
  let v85 : BitVec 32 := Scalar.addi c0_i32_67 v84
  v85.toNat
def k0_dev8 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_87 : BitVec 32 := 3#32
  let v109 : BitVec 32 := Scalar.xori v2 c3_i32_87
  let c1_i32_94 : BitVec 32 := 1#32
  let v114 : BitVec 32 := Scalar.muli v109 c1_i32_94
  let v115 : BitVec 32 := Scalar.addi c0_i32_95 v114
  v115.toNat
def k0_dev9 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_113 : BitVec 32 := 3#32
  let v136 : BitVec 32 := Scalar.xori v2 c3_i32_113
  let c1_i32_119 : BitVec 32 := 1#32
  let v141 : BitVec 32 := Scalar.muli v136 c1_i32_119
  let v142 : BitVec 32 := Scalar.addi c0_i32_120 v141
  v142.toNat
def k0_dev10 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_138 : BitVec 32 := 3#32
  let v163 : BitVec 32 := Scalar.xori v2 c3_i32_138
  let c1_i32_144 : BitVec 32 := 1#32
  let v168 : BitVec 32 := Scalar.muli v163 c1_i32_144
  let v169 : BitVec 32 := Scalar.addi c0_i32_145 v168
  v169.toNat
def k0_dev11 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_163 : BitVec 32 := 3#32
  let v190 : BitVec 32 := Scalar.xori v2 c3_i32_163
  let c1_i32_169 : BitVec 32 := 1#32
  let v195 : BitVec 32 := Scalar.muli v190 c1_i32_169
  let v196 : BitVec 32 := Scalar.addi c0_i32_170 v195
  v196.toNat
def k0_dev12 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_188 : BitVec 32 := 4#32
  let v217 : BitVec 32 := Scalar.xori v2 c4_i32_188
  let c1_i32_195 : BitVec 32 := 1#32
  let v222 : BitVec 32 := Scalar.muli v217 c1_i32_195
  let v223 : BitVec 32 := Scalar.addi c0_i32_196 v222
  v223.toNat
def k0_dev13 (d0 : Dev nD) : Nat :=
  let c0_i32_221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_214 : BitVec 32 := 4#32
  let v244 : BitVec 32 := Scalar.xori v2 c4_i32_214
  let c1_i32_220 : BitVec 32 := 1#32
  let v249 : BitVec 32 := Scalar.muli v244 c1_i32_220
  let v250 : BitVec 32 := Scalar.addi c0_i32_221 v249
  v250.toNat
def k0_dev14 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_239 : BitVec 32 := 4#32
  let v271 : BitVec 32 := Scalar.xori v2 c4_i32_239
  let c1_i32_245 : BitVec 32 := 1#32
  let v276 : BitVec 32 := Scalar.muli v271 c1_i32_245
  let v277 : BitVec 32 := Scalar.addi c0_i32_246 v276
  v277.toNat
def k0_dev15 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_264 : BitVec 32 := 4#32
  let v298 : BitVec 32 := Scalar.xori v2 c4_i32_264
  let c1_i32_270 : BitVec 32 := 1#32
  let v303 : BitVec 32 := Scalar.muli v298 c1_i32_270
  let v304 : BitVec 32 := Scalar.addi c0_i32_271 v303
  v304.toNat
def k0_dev16 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_336 : BitVec 32 := 1#32
  let v384 : BitVec 32 := Scalar.xori v2 c1_i32_336
  let c1_i32_342 : BitVec 32 := 1#32
  let v389 : BitVec 32 := Scalar.muli v384 c1_i32_342
  let v390 : BitVec 32 := Scalar.addi c0_i32_343 v389
  v390.toNat
def k0_dev17 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_349 : BitVec 32 := 1#32
  let v401 : BitVec 32 := Scalar.xori v2 c1_i32_349
  let c1_i32_355 : BitVec 32 := 1#32
  let v406 : BitVec 32 := Scalar.muli v401 c1_i32_355
  let v407 : BitVec 32 := Scalar.addi c0_i32_356 v406
  v407.toNat
def k0_dev18 (d0 : Dev nD) : Nat :=
  let c0_i32_369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_362 : BitVec 32 := 1#32
  let v418 : BitVec 32 := Scalar.xori v2 c1_i32_362
  let c1_i32_368 : BitVec 32 := 1#32
  let v423 : BitVec 32 := Scalar.muli v418 c1_i32_368
  let v424 : BitVec 32 := Scalar.addi c0_i32_369 v423
  v424.toNat
def k0_dev19 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_375 : BitVec 32 := 1#32
  let v435 : BitVec 32 := Scalar.xori v2 c1_i32_375
  let c1_i32_381 : BitVec 32 := 1#32
  let v440 : BitVec 32 := Scalar.muli v435 c1_i32_381
  let v441 : BitVec 32 := Scalar.addi c0_i32_382 v440
  v441.toNat
def k0_dev20 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_402 : BitVec 32 := 3#32
  let v465 : BitVec 32 := Scalar.xori v2 c3_i32_402
  let c1_i32_408 : BitVec 32 := 1#32
  let v470 : BitVec 32 := Scalar.muli v465 c1_i32_408
  let v471 : BitVec 32 := Scalar.addi c0_i32_409 v470
  v471.toNat
def k0_dev21 (d0 : Dev nD) : Nat :=
  let c0_i32_434 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_427 : BitVec 32 := 3#32
  let v492 : BitVec 32 := Scalar.xori v2 c3_i32_427
  let c1_i32_433 : BitVec 32 := 1#32
  let v497 : BitVec 32 := Scalar.muli v492 c1_i32_433
  let v498 : BitVec 32 := Scalar.addi c0_i32_434 v497
  v498.toNat
def k0_dev22 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_452 : BitVec 32 := 3#32
  let v519 : BitVec 32 := Scalar.xori v2 c3_i32_452
  let c1_i32_458 : BitVec 32 := 1#32
  let v524 : BitVec 32 := Scalar.muli v519 c1_i32_458
  let v525 : BitVec 32 := Scalar.addi c0_i32_459 v524
  v525.toNat
def k0_dev23 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_477 : BitVec 32 := 3#32
  let v546 : BitVec 32 := Scalar.xori v2 c3_i32_477
  let c1_i32_483 : BitVec 32 := 1#32
  let v551 : BitVec 32 := Scalar.muli v546 c1_i32_483
  let v552 : BitVec 32 := Scalar.addi c0_i32_484 v551
  v552.toNat
def k0_dev24 (d0 : Dev nD) : Nat :=
  let c0_i32_509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_502 : BitVec 32 := 4#32
  let v573 : BitVec 32 := Scalar.xori v2 c4_i32_502
  let c1_i32_508 : BitVec 32 := 1#32
  let v578 : BitVec 32 := Scalar.muli v573 c1_i32_508
  let v579 : BitVec 32 := Scalar.addi c0_i32_509 v578
  v579.toNat
def k0_dev25 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_527 : BitVec 32 := 4#32
  let v600 : BitVec 32 := Scalar.xori v2 c4_i32_527
  let c1_i32_533 : BitVec 32 := 1#32
  let v605 : BitVec 32 := Scalar.muli v600 c1_i32_533
  let v606 : BitVec 32 := Scalar.addi c0_i32_534 v605
  v606.toNat
def k0_dev26 (d0 : Dev nD) : Nat :=
  let c0_i32_559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_552 : BitVec 32 := 4#32
  let v627 : BitVec 32 := Scalar.xori v2 c4_i32_552
  let c1_i32_558 : BitVec 32 := 1#32
  let v632 : BitVec 32 := Scalar.muli v627 c1_i32_558
  let v633 : BitVec 32 := Scalar.addi c0_i32_559 v632
  v633.toNat
def k0_dev27 (d0 : Dev nD) : Nat :=
  let c0_i32_584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_577 : BitVec 32 := 4#32
  let v654 : BitVec 32 := Scalar.xori v2 c4_i32_577
  let c1_i32_583 : BitVec 32 := 1#32
  let v659 : BitVec 32 := Scalar.muli v654 c1_i32_583
  let v660 : BitVec 32 := Scalar.addi c0_i32_584 v659
  v660.toNat
def k0_dev28 (d0 : Dev nD) : Nat :=
  let c0_i32_656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_649 : BitVec 32 := 1#32
  let v740 : BitVec 32 := Scalar.xori v2 c1_i32_649
  let c1_i32_655 : BitVec 32 := 1#32
  let v745 : BitVec 32 := Scalar.muli v740 c1_i32_655
  let v746 : BitVec 32 := Scalar.addi c0_i32_656 v745
  v746.toNat
def k0_dev29 (d0 : Dev nD) : Nat :=
  let c0_i32_669 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_662 : BitVec 32 := 1#32
  let v757 : BitVec 32 := Scalar.xori v2 c1_i32_662
  let c1_i32_668 : BitVec 32 := 1#32
  let v762 : BitVec 32 := Scalar.muli v757 c1_i32_668
  let v763 : BitVec 32 := Scalar.addi c0_i32_669 v762
  v763.toNat
def k0_dev30 (d0 : Dev nD) : Nat :=
  let c0_i32_682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_675 : BitVec 32 := 1#32
  let v774 : BitVec 32 := Scalar.xori v2 c1_i32_675
  let c1_i32_681 : BitVec 32 := 1#32
  let v779 : BitVec 32 := Scalar.muli v774 c1_i32_681
  let v780 : BitVec 32 := Scalar.addi c0_i32_682 v779
  v780.toNat
def k0_dev31 (d0 : Dev nD) : Nat :=
  let c0_i32_695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_688 : BitVec 32 := 1#32
  let v791 : BitVec 32 := Scalar.xori v2 c1_i32_688
  let c1_i32_694 : BitVec 32 := 1#32
  let v796 : BitVec 32 := Scalar.muli v791 c1_i32_694
  let v797 : BitVec 32 := Scalar.addi c0_i32_695 v796
  v797.toNat
def k0_dev32 (d0 : Dev nD) : Nat :=
  let c0_i32_720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_713 : BitVec 32 := 3#32
  let v818 : BitVec 32 := Scalar.xori v2 c3_i32_713
  let c1_i32_719 : BitVec 32 := 1#32
  let v823 : BitVec 32 := Scalar.muli v818 c1_i32_719
  let v824 : BitVec 32 := Scalar.addi c0_i32_720 v823
  v824.toNat
def k0_dev33 (d0 : Dev nD) : Nat :=
  let c0_i32_745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_738 : BitVec 32 := 3#32
  let v845 : BitVec 32 := Scalar.xori v2 c3_i32_738
  let c1_i32_744 : BitVec 32 := 1#32
  let v850 : BitVec 32 := Scalar.muli v845 c1_i32_744
  let v851 : BitVec 32 := Scalar.addi c0_i32_745 v850
  v851.toNat
def k0_dev34 (d0 : Dev nD) : Nat :=
  let c0_i32_770 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_763 : BitVec 32 := 3#32
  let v872 : BitVec 32 := Scalar.xori v2 c3_i32_763
  let c1_i32_769 : BitVec 32 := 1#32
  let v877 : BitVec 32 := Scalar.muli v872 c1_i32_769
  let v878 : BitVec 32 := Scalar.addi c0_i32_770 v877
  v878.toNat
def k0_dev35 (d0 : Dev nD) : Nat :=
  let c0_i32_795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_788 : BitVec 32 := 3#32
  let v899 : BitVec 32 := Scalar.xori v2 c3_i32_788
  let c1_i32_794 : BitVec 32 := 1#32
  let v904 : BitVec 32 := Scalar.muli v899 c1_i32_794
  let v905 : BitVec 32 := Scalar.addi c0_i32_795 v904
  v905.toNat
def k0_dev36 (d0 : Dev nD) : Nat :=
  let c0_i32_820 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_813 : BitVec 32 := 4#32
  let v926 : BitVec 32 := Scalar.xori v2 c4_i32_813
  let c1_i32_819 : BitVec 32 := 1#32
  let v931 : BitVec 32 := Scalar.muli v926 c1_i32_819
  let v932 : BitVec 32 := Scalar.addi c0_i32_820 v931
  v932.toNat
def k0_dev37 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_838 : BitVec 32 := 4#32
  let v953 : BitVec 32 := Scalar.xori v2 c4_i32_838
  let c1_i32_844 : BitVec 32 := 1#32
  let v958 : BitVec 32 := Scalar.muli v953 c1_i32_844
  let v959 : BitVec 32 := Scalar.addi c0_i32_845 v958
  v959.toNat
def k0_dev38 (d0 : Dev nD) : Nat :=
  let c0_i32_870 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_863 : BitVec 32 := 4#32
  let v980 : BitVec 32 := Scalar.xori v2 c4_i32_863
  let c1_i32_869 : BitVec 32 := 1#32
  let v985 : BitVec 32 := Scalar.muli v980 c1_i32_869
  let v986 : BitVec 32 := Scalar.addi c0_i32_870 v985
  v986.toNat
def k0_dev39 (d0 : Dev nD) : Nat :=
  let c0_i32_895 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_888 : BitVec 32 := 4#32
  let v1007 : BitVec 32 := Scalar.xori v2 c4_i32_888
  let c1_i32_894 : BitVec 32 := 1#32
  let v1012 : BitVec 32 := Scalar.muli v1007 c1_i32_894
  let v1013 : BitVec 32 := Scalar.addi c0_i32_895 v1012
  v1013.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x1024 : Shape := ⟨2, ![64, 1024]⟩
abbrev S1024x16384 : Shape := ⟨2, ![1024, 16384]⟩
abbrev S16384x1024 : Shape := ⟨2, ![16384, 1024]⟩
abbrev S64x16384 : Shape := ⟨2, ![64, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S1024x16384, .f32⟩
  | .hbm, ⟨2, _⟩ => ⟨S16384x1024, .f32⟩
  | .hbm, ⟨3, _⟩ => ⟨S1024x16384, .f32⟩
  | .hbm, ⟨4, _⟩ => ⟨S16384x1024, .f32⟩
  | .hbm, ⟨5, _⟩ => ⟨S1024x16384, .f32⟩
  | .hbm, ⟨6, _⟩ => ⟨S16384x1024, .f32⟩
  | .hbm, ⟨7, _⟩ => ⟨S64x16384, .f32⟩
  | .hbm, ⟨8, _⟩ => ⟨S_, .f32⟩
  | .hbm, ⟨9, _⟩ => ⟨S64x16384, .f32⟩
  | .hbm, ⟨10, _⟩ => ⟨S64x16384, .f32⟩
  | .hbm, ⟨11, _⟩ => ⟨S64x1024, .f32⟩
  | .hbm, ⟨12, _⟩ => ⟨S64x16384, .f32⟩
  | .hbm, ⟨13, _⟩ => ⟨S_, .f32⟩
  | .hbm, ⟨14, _⟩ => ⟨S64x16384, .f32⟩
  | .hbm, ⟨15, _⟩ => ⟨S64x16384, .f32⟩
  | .hbm, ⟨16, _⟩ => ⟨S64x1024, .f32⟩
  | .hbm, ⟨17, _⟩ => ⟨S64x16384, .f32⟩
  | .hbm, ⟨18, _⟩ => ⟨S_, .f32⟩
  | .hbm, ⟨19, _⟩ => ⟨S64x16384, .f32⟩
  | .hbm, ⟨20, _⟩ => ⟨S64x16384, .f32⟩
  | .hbm, ⟨21, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Program.lean ====
/-
# The kernel's body as a short program over numbered slots

The printed body spells the 36 exchanges out one by one. This module says the same program once per kind of step —
`sendStep` (fill outgoing slot `i` and start its copy), `recvStep` (wait for incoming slot `i` and read it), `drainStep`
(wait until outgoing slot `i` has left) —, puts the steps together layer by layer (`program`), and proves that the printed
body is that program (`body_eq`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Mlp

open Cert.KernelIdeal Cert.KernelIdeal.Gen
open Idealize.ShloMosaic Idealize.ShloMosaic.TcCoe
open Idealize.SL Idealize.SL.Sem

variable {F : FTy → Type} [FloatOps F]

/-! ## The buffers, their slots and the slots' semaphores -/

/-- The staged input `x`. -/
abbrev xM : Memref sig .tc .vmem S64x1024 .f32 := Memref.whole cc0_stg0_0
/-- The staged first weights of layers 0, 1 and 2. -/
abbrev wi0M : Memref sig .tc .vmem S1024x2048 .f32 := Memref.whole cc0_stg1_0
abbrev wi1M : Memref sig .tc .vmem S1024x2048 .f32 := Memref.whole cc0_stg3_0
abbrev wi2M : Memref sig .tc .vmem S1024x2048 .f32 := Memref.whole cc0_stg5_0
/-- The staged second weights of layers 0, 1 and 2. -/
abbrev wo0M : Memref sig .tc .vmem S2048x1024 .f32 := Memref.whole cc0_stg2_0
abbrev wo1M : Memref sig .tc .vmem S2048x1024 .f32 := Memref.whole cc0_stg4_0
abbrev wo2M : Memref sig .tc .vmem S2048x1024 .f32 := Memref.whole cc0_stg6_0
/-- The staged result. -/
abbrev outM : Memref sig .tc .vmem S64x1024 .f32 := Memref.whole cc0_stg7_0
/-- The outgoing and the incoming exchange buffers, 36 slots each. -/
abbrev sbM : Memref sig .tc .vmem S36x64x256 .bf16 := Memref.whole cc0_scratch0
abbrev rvM : Memref sig .tc .vmem S36x64x256 .bf16 := Memref.whole cc0_scratch1

/-- Slot `i` lies within an exchange buffer. -/
theorem slot_inb {i : ℕ} (hi : i < 36) : ∀ a, (![i, 0, 0] : Fin 3 → Nat) a + S1x64x256.size a ≤ S36x64x256.size a := by
  intro a
  fin_cases a
  · show i + 1 ≤ 36; omega
  · show 0 + 64 ≤ 64; omega
  · show 0 + 256 ≤ 256; omega
/-- Semaphore `i` lies within an array of 36. -/
theorem sem_inb {i : ℕ} (hi : i < 36) : ∀ a, (![i] : Fin 1 → Nat) a + S1.size a ≤ S36.size a := by
  intro a
  fin_cases a
  show i + 1 ≤ 36; omega

/-- Slot `i` as a rectangle of an exchange buffer. -/
abbrev slotR (i : ℕ) (hi : i < 36) : Rect S36x64x256 := Rect.unit (s := S36x64x256) ![i, 0, 0] S1x64x256.size (slot_inb hi)

theorem slot_words {i : ℕ} (hi : i < 36) : (slotR i hi).WholeWords (EltTy.packing .bf16) :=
  (by decide +kernel : ∀ i : Fin 36, (slotR i.1 i.2).WholeWords (EltTy.packing .bf16)) ⟨i, hi⟩
theorem slot_packed {i : ℕ} (hi : i < 36) : (slotR i hi).PackedRows (EltTy.packing .bf16) :=
  (by decide +kernel : ∀ i : Fin 36, (slotR i.1 i.2).PackedRows (EltTy.packing .bf16)) ⟨i, hi⟩

/-- Slot `i` of the outgoing and of the incoming buffer, as the copies name them. -/
abbrev sbSlot (i : ℕ) (hi : i < 36) : Memref sig .tc .vmem S64x256 .bf16 :=
  (sbM.slice (slotR i hi) (fun _ => rfl)).squeeze S64x256 squeezes_S1x64x256_S64x256
abbrev rvSlot (i : ℕ) (hi : i < 36) : Memref sig .tc .vmem S64x256 .bf16 :=
  (rvM.slice (slotR i hi) (fun _ => rfl)).squeeze S64x256 squeezes_S1x64x256_S64x256

theorem sbSlot_words {i : ℕ} (hi : i < 36) : (sbSlot i hi).view.WordExact :=
  ((Memref.isWhole_whole cc0_scratch0).wordExact_slice rfl _ (slot_words hi)).reshape _ _
theorem rvSlot_words {i : ℕ} (hi : i < 36) : (rvSlot i hi).view.WordExact :=
  ((Memref.isWhole_whole cc0_scratch1).wordExact_slice rfl _ (slot_words hi)).reshape _ _

/-- The semaphore a copy out of slot `i` signals on its own device, and the one it signals where it lands. -/
abbrev sendQ (i : ℕ) (hi : i < 36) : DmaSem sig :=
  ((cc0_scratch2.slice (Rect.unit (s := S36) ![i] S1.size (sem_inb hi))).squeeze S_ squeezes_S1_S_).sem
abbrev recvQ (i : ℕ) (hi : i < 36) : DmaSem sig :=
  ((cc0_scratch3.slice (Rect.unit (s := S36) ![i] S1.size (sem_inb hi))).squeeze S_ squeezes_S1_S_).sem

/-- The barrier semaphore. -/
abbrev barS : Sem sig := (SemArray.scalar (sig.barrier 0 rfl) : Sems sig S_).sem

/-! ## The steps -/

/-- A program of one device's core. -/
abbrev P (F : FTy → Type) : Type 1 := Prog (TpuEff nD τ sig (Elt F) Λ₀ .tc) PUnit

/-- Fill outgoing slot `i` with `p` and start its copy into incoming slot `i` of device `n`. -/
def sendStep (i : ℕ) (hi : i < 36) (n : Dev nD) (p : FVec F S1x64x256 .bf16) (k : P F) : P F :=
  .op (.load sbM (slotR i hi).toLoadRect (View.loadsAt_vmem h_S1x64x256)) fun _ =>
  .op (.store sbM (slotR i hi) p Finset.univ (View.stores_vmem h_S1x64x256 ((Memref.isWhole_whole cc0_scratch0).storeExact_slice rfl _ (slot_packed hi)) (fun _ => rfl)) (.inl rfl)) fun _ =>
  .op (.enqueueDma (sbSlot i hi) (.remote (Dev.tc n) (rvSlot i hi) (.dma (sendQ i hi))) (.dma (recvQ i hi)) (sbSlot_words hi) (rvSlot_words hi) ⟨⟨rfl, Or.inl rfl⟩, trivial⟩) fun _ => k

/-- Wait for the copy into incoming slot `i`, read the slot, go on with what it holds. -/
def recvStep (i : ℕ) (hi : i < 36) (k : Vec F S1x64x256 .bf16 → P F) : P F :=
  .op (.waitDma2 (recvQ i hi) (sbSlot i hi) (rvSlot i hi) (sbSlot_words hi) (rvSlot_words hi)) fun _ =>
  .op (.load rvM (slotR i hi).toLoadRect (View.loadsAt_vmem h_S1x64x256)) k

/-- Wait until the copy out of slot `i` has left. -/
def drainStep (i : ℕ) (hi : i < 36) (k : P F) : P F :=
  .op (.waitDma2 (sendQ i hi) (rvSlot i hi) (sbSlot i hi) (rvSlot_words hi) (sbSlot_words hi)) fun _ => k

/-- Read a whole staged buffer of two axes. -/
def readWhole {a b : ℕ} (M : Memref sig .tc .vmem ⟨2, ![a, b]⟩ .f32)
    (h : ∀ x, (![0, 0] : Fin 2 → Nat) x + (⟨2, ![a, b]⟩ : Shape).size x ≤ (⟨2, ![a, b]⟩ : Shape).size x)
    (hp : 0 < (⟨2, ![a, b]⟩ : Shape).numel) (k : Vec F ⟨2, ![a, b]⟩ .f32 → P F) : P F :=
  .op (.load M (Rect.unit (s := ⟨2, ![a, b]⟩) ![0, 0] (⟨2, ![a, b]⟩ : Shape).size h).toLoadRect (View.loadsAt_vmem hp)) k

/-- The values of the four column chunks of one layer's partial sums. -/
abbrev Ps (F : FTy → Type) : Type := FVec F S64x256 .f32 × FVec F S64x256 .f32 × FVec F S64x256 .f32 × FVec F S64x256 .f32

/-- Send the four chunks in slots `b .. b+3` to device `n`. -/
def send4 (b : ℕ) (hb : b + 3 < 36) (n : Dev nD) (p0 p1 p2 p3 : FVec F S64x256 .f32) (k : P F) : P F :=
  sendStep b (by omega) n (k0_pay4 p0) <| sendStep (b + 1) (by omega) n (k0_pay4 p1) <|
  sendStep (b + 2) (by omega) n (k0_pay4 p2) <| sendStep (b + 3) hb n (k0_pay4 p3) k

/-- Chunk by chunk: receive slot `b + c`, add it, send the sum in slot `b + 4 + c` to device `n`. -/
def exch4 (b : ℕ) (hb : b + 7 < 36) (n : Dev nD) (p0 p1 p2 p3 : FVec F S64x256 .f32)
    (k : FVec F S64x256 .f32 → FVec F S64x256 .f32 → FVec F S64x256 .f32 → FVec F S64x256 .f32 → P F) : P F :=
  recvStep b (by omega) fun r0 => sendStep (b + 4) (by omega) n (k0_pay4 (k0_pay12 p0 r0)) <|
  recvStep (b + 1) (by omega) fun r1 => sendStep (b + 5) (by omega) n (k0_pay4 (k0_pay12 p1 r1)) <|
  recvStep (b + 2) (by omega) fun r2 => sendStep (b + 6) (by omega) n (k0_pay4 (k0_pay12 p2 r2)) <|
  recvStep (b + 3) (by omega) fun r3 => sendStep (b + 7) hb n (k0_pay4 (k0_pay12 p3 r3)) <|
  k (k0_pay12 p0 r0) (k0_pay12 p1 r1) (k0_pay12 p2 r2) (k0_pay12 p3 r3)

/-- Receive the last four slots `b .. b+3` of a layer and add them. -/
def last4 (b : ℕ) (hb : b + 3 < 36) (p0 p1 p2 p3 : FVec F S64x256 .f32)
    (k : FVec F S64x256 .f32 → FVec F S64x256 .f32 → FVec F S64x256 .f32 → FVec F S64x256 .f32 → P F) : P F :=
  recvStep b (by omega) fun r0 => recvStep (b + 1) (by omega) fun r1 =>
  recvStep (b + 2) (by omega) fun r2 => recvStep (b + 3) hb fun r3 =>
  k (k0_pay12 p0 r0) (k0_pay12 p1 r1) (k0_pay12 p2 r2) (k0_pay12 p3 r3)

/-- Write one column chunk of the result, at columns `o .. o+255`. -/
def outStep (o : ℕ) (h : ∀ a, (![0, o] : Fin 2 → Nat) a + S64x256.size a ≤ S64x1024.size a) (v : FVec F S64x256 .f32) (k : P F) : P F :=
  .op (.load outM (Rect.unit (s := S64x1024) ![0, o] S64x256.size h).toLoadRect (View.loadsAt_vmem h_S64x256)) fun _ =>
  .op (.store outM (Rect.unit (s := S64x1024) ![0, o] S64x256.size h) v Finset.univ (View.stores_vmem_bits_univ h_S64x256 rfl) (.inl rfl)) fun _ => k

/-- Receive the last layer's last four slots, add each and write it out. -/
def finish4 (p0 p1 p2 p3 : FVec F S64x256 .f32) (k : P F) : P F :=
  recvStep 32 (by decide) fun r0 => outStep 0 inb_S64x1024_S64x256_0_0 (k0_pay12 p0 r0) <|
  recvStep 33 (by decide) fun r1 => outStep 256 inb_S64x1024_S64x256_0_256 (k0_pay12 p1 r1) <|
  recvStep 34 (by decide) fun r2 => outStep 512 inb_S64x1024_S64x256_0_512 (k0_pay12 p2 r2) <|
  recvStep 35 (by decide) fun r3 => outStep 768 inb_S64x1024_S64x256_0_768 (k0_pay12 p3 r3) k

/-- Drain the outgoing slots `b, b+1, …, b+n-1`. -/
def drains (b : ℕ) : (n : ℕ) → b + n ≤ 36 → P F
  | 0, _ => .ret ⟨⟩
  | n + 1, h => drainStep b (by omega) (drains (b + 1) n (by omega))

/-! ## The values -/

/-- The column chunk of a layer's second product starting at column 0, 256, 512, 768. -/
abbrev ps0 (h : FVec F S64x2048 .bf16) (w : Vec F S2048x1024 .f32) : FVec F S64x256 .f32 := k0_pay31 h w
abbrev ps1 (h : FVec F S64x2048 .bf16) (w : Vec F S2048x1024 .f32) : FVec F S64x256 .f32 := k0_pay5 h (k0_pay2 w)
abbrev ps2 (h : FVec F S64x2048 .bf16) (w : Vec F S2048x1024 .f32) : FVec F S64x256 .f32 := k0_pay7 h (k0_pay2 w)
abbrev ps3 (h : FVec F S64x2048 .bf16) (w : Vec F S2048x1024 .f32) : FVec F S64x256 .f32 := k0_pay9 h (k0_pay2 w)

/-- The next layer's hidden block, from the four summed chunks and that layer's first weights. -/
def nextH (w : Vec F S1024x2048 .f32) (a0 a1 a2 a3 : FVec F S64x256 .f32) : FVec F S64x2048 .bf16 :=
  let v := k0_pay11 w
  let t (a : FVec F S64x256 .f32) : FVec F S64x256 .bf16 := truncf .bf16 a bitsLt_bf16_f32
  let z : FVec F S64x2048 .f32 := constant S64x2048 .f32 0x00000000#32
  let m0 : FVec F S64x2048 .f32 := matmul dot_S64x256_S256x2048_S64x2048_1_0_0_1_n_n none (t a0) (extractStridedSlice S256x2048 ![0, 0] v slices_S1024x2048_o0_0_S256x2048) z
  let m1 : FVec F S64x2048 .f32 := matmul dot_S64x256_S256x2048_S64x2048_1_0_0_1_n_n none (t a1) (extractStridedSlice S256x2048 ![256, 0] v slices_S1024x2048_o256_0_S256x2048) z
  let m2 : FVec F S64x2048 .f32 := matmul dot_S64x256_S256x2048_S64x2048_1_0_0_1_n_n none (t a2) (extractStridedSlice S256x2048 ![512, 0] v slices_S1024x2048_o512_0_S256x2048) z
  let m3 : FVec F S64x2048 .f32 := matmul dot_S64x256_S256x2048_S64x2048_1_0_0_1_n_n none (t a3) (extractStridedSlice S256x2048 ![768, 0] v slices_S1024x2048_o768_0_S256x2048) z
  truncf .bf16 (maximumf (addf (addf (addf m0 m1) m2) m3) (broadcast S64x2048 (Scalar.ofBits .f32 0x00000000#32))) bitsLt_bf16_f32

/-! ## The program -/

/-- The device addressed in step 0, 1, 2 of a layer's exchange. -/
abbrev dv0 (d : Dev nD) : Dev nD := ⟨k0_dev4 d, k0_dev4_lt d⟩
abbrev dv1 (d : Dev nD) : Dev nD := ⟨k0_dev8 d, k0_dev8_lt d⟩
abbrev dv2 (d : Dev nD) : Dev nD := ⟨k0_dev12 d, k0_dev12_lt d⟩

/-- Layer 2: from its hidden block to the result, then all outgoing slots drained. -/
def layer2 (d : Dev nD) (h : FVec F S64x2048 .bf16) : P F :=
  readWhole wo2M inb_S2048x1024_S2048x1024_0_0 h_S2048x1024 fun w =>
  send4 24 (by decide) (dv0 d) (ps0 h w) (ps1 h w) (ps2 h w) (ps3 h w) <|
  exch4 24 (by decide) (dv1 d) (ps0 h w) (ps1 h w) (ps2 h w) (ps3 h w) fun a0 a1 a2 a3 =>
  exch4 28 (by decide) (dv2 d) a0 a1 a2 a3 fun a0 a1 a2 a3 =>
  finish4 a0 a1 a2 a3 (drains 0 36 (by decide))

/-- Layers 1 and 2. -/
def layer1 (d : Dev nD) (h : FVec F S64x2048 .bf16) : P F :=
  readWhole wo1M inb_S2048x1024_S2048x1024_0_0 h_S2048x1024 fun w =>
  send4 12 (by decide) (dv0 d) (ps0 h w) (ps1 h w) (ps2 h w) (ps3 h w) <|
  readWhole wi2M inb_S1024x2048_S1024x2048_0_0 h_S1024x2048 fun w' =>
  exch4 12 (by decide) (dv1 d) (ps0 h w) (ps1 h w) (ps2 h w) (ps3 h w) fun a0 a1 a2 a3 =>
  exch4 16 (by decide) (dv2 d) a0 a1 a2 a3 fun a0 a1 a2 a3 =>
  last4 20 (by decide) a0 a1 a2 a3 fun a0 a1 a2 a3 => layer2 d (nextH w' a0 a1 a2 a3)

/-- All three layers, from the staged `x`. -/
def layer0 (d : Dev nD) : P F :=
  readWhole xM inb_S64x1024_S64x1024_0_0 h_S64x1024 fun x =>
  readWhole wi0M inb_S1024x2048_S1024x2048_0_0 h_S1024x2048 fun w0 =>
  readWhole wo0M inb_S2048x1024_S2048x1024_0_0 h_S2048x1024 fun w =>
  send4 0 (by decide) (dv0 d) (ps0 (k0_pay1 x w0) w) (ps1 (k0_pay1 x w0) w) (ps2 (k0_pay1 x w0) w) (ps3 (k0_pay1 x w0) w) <|
  readWhole wi1M inb_S1024x2048_S1024x2048_0_0 h_S1024x2048 fun w' =>
  exch4 0 (by decide) (dv1 d) (ps0 (k0_pay1 x w0) w) (ps1 (k0_pay1 x w0) w) (ps2 (k0_pay1 x w0) w) (ps3 (k0_pay1 x w0) w) fun a0 a1 a2 a3 =>
  exch4 4 (by decide) (dv2 d) a0 a1 a2 a3 fun a0 a1 a2 a3 =>
  last4 8 (by decide) a0 a1 a2 a3 fun a0 a1 a2 a3 => layer1 d (nextH w' a0 a1 a2 a3)

/-- The handshake with the three partners, then the layers. -/
def program : P F :=
  .op .deviceId fun d =>
  .op (.semSignal (Dev.tc (⟨k0_dev1 d, k0_dev1_lt d⟩ : Dev nD)) barS (1#32 : BitVec 32).toInt) fun _ =>
  .op (.semSignal (Dev.tc (⟨k0_dev2 d, k0_dev2_lt d⟩ : Dev nD)) barS (1#32 : BitVec 32).toInt) fun _ =>
  .op (.semSignal (Dev.tc (⟨k0_dev3 d, k0_dev3_lt d⟩ : Dev nD)) barS (1#32 : BitVec 32).toInt) fun _ =>
  .op (.semWait barS (3#32 : BitVec 32).toInt) fun _ => layer0 d

set_option maxRecDepth 65536 in
set_option maxHeartbeats 4000000 in
/-- The printed body, on the buffers the launch calls it with, is `program`. -/
theorem body_eq :
    cc0_body (F := F) xM (Memref.isWhole_whole _) wi0M (Memref.isWhole_whole _) wo0M (Memref.isWhole_whole _) wi1M (Memref.isWhole_whole _)
      wo1M (Memref.isWhole_whole _) wi2M (Memref.isWhole_whole _) wo2M (Memref.isWhole_whole _) outM (Memref.isWhole_whole _)
      sbM (Memref.isWhole_whole _) rvM (Memref.isWhole_whole _) cc0_scratch2 cc0_scratch3 = program := by
  chain_rfl

end Cert.KernelIdeal.Mlp

end
-- ==== Proof.Values.lean ====
/-
# What every device computes and sends

Three layers, each a hidden block `hid l c` (device `c`'s 2048 columns of the layer's hidden activations) and its partial
sums `part`: the product of that block with the device's rows of the second weights, in four chunks of 256 columns, summed
up over the devices in three exchanges. In exchange `s` device `c` and its partner `peer s c` swap their running sums, so
after exchange 0, 1, 2 a sum covers 2, 4, 8 devices.
-/
module

public import proofs.«01_k».proof.Proof.Program

@[expose] public section

noncomputable section

namespace Cert.KernelIdeal.Mlp

open Cert.KernelIdeal Cert.KernelIdeal.Gen
open Idealize.ShloMosaic Idealize.ShloMosaic.TcCoe
open Idealize.SL Idealize.SL.Sem

variable {F : FTy → Type} [FloatOps F]

/-! ## Partners -/

/-- The bits in which a device and its partner in exchange 0, 1, 2 differ. -/
def mask : Fin 3 → ℕ := ![1, 3, 4]

set_option backward.proofsInPublic true in
/-- Device `c`'s partner in exchange `s`. -/
def peer (s : Fin 3) (c : Dev nD) : Dev nD := ⟨(c.val ^^^ mask s) % 8, Nat.mod_lt _ (by decide)⟩

/-- Being partners is mutual. -/
theorem peer_peer (s : Fin 3) (c : Dev nD) : peer s (peer s c) = c := by revert s c; decide

/-- The exchange slot `i` belongs to: slots run through the layers, in each through the exchanges, in each through the chunks. -/
def stp (i : ℕ) : Fin 3 := ⟨i / 4 % 3, Nat.mod_lt _ (by decide)⟩

/-- The devices the program computes are the partners. -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dv0_eq (c : Dev nD) : dv0 c = peer 0 c := by revert c; decide +kernel
theorem dv1_eq (c : Dev nD) : dv1 c = peer 1 c := by revert c; decide +kernel
theorem dv2_eq (c : Dev nD) : dv2 c = peer 2 c := by revert c; decide +kernel

/-! ## The values -/

/-- What the devices hold at the start: `x`, and each layer's block of the first and the second weights. -/
structure Inputs (F : FTy → Type) where
  x : Dev nD → Vec F S64x1024 .f32
  wi : Fin 3 → Dev nD → Vec F S1024x2048 .f32
  wo : Fin 3 → Dev nD → Vec F S2048x1024 .f32

/-- The four column chunks of a device's product of a hidden block with its second weights. -/
def chunks (h : FVec F S64x2048 .bf16) (w : Vec F S2048x1024 .f32) : ℕ → FVec F S64x256 .f32
  | 0 => ps0 h w
  | 1 => ps1 h w
  | 2 => ps2 h w
  | _ => ps3 h w

/-- Chunk `j` of device `c`'s running sum after `s` exchanges. -/
def part (h : Dev nD → FVec F S64x2048 .bf16) (w : Dev nD → Vec F S2048x1024 .f32) : ℕ → Dev nD → ℕ → FVec F S64x256 .f32
  | 0, c, j => chunks (h c) (w c) j
  | s + 1, c, j => k0_pay12 (part h w s c j) (k0_pay4 (part h w s (peer (stp (4 * s)) c) j))

/-- The next layer's hidden blocks from a layer's. -/
def step (w : Dev nD → Vec F S2048x1024 .f32) (w' : Dev nD → Vec F S1024x2048 .f32) (h : Dev nD → FVec F S64x2048 .bf16) :
    Dev nD → FVec F S64x2048 .bf16 :=
  fun c => nextH (w' c) (part h w 3 c 0) (part h w 3 c 1) (part h w 3 c 2) (part h w 3 c 3)

/-- The hidden blocks of layer 0, 1, 2. -/
def hid (I : Inputs F) : ℕ → Dev nD → FVec F S64x2048 .bf16
  | 0 => fun c => k0_pay1 (I.x c) (I.wi 0 c)
  | 1 => step (I.wo 0) (I.wi 1) fun c => k0_pay1 (I.x c) (I.wi 0 c)
  | _ => step (I.wo 1) (I.wi 2) (step (I.wo 0) (I.wi 1) fun c => k0_pay1 (I.x c) (I.wi 0 c))

/-- A layer's number among the three. -/
def lay (l : ℕ) : Fin 3 := ⟨l % 3, Nat.mod_lt _ (by decide)⟩

/-- Chunk `j` of device `c`'s running sum in layer `l` after `s` exchanges. -/
def psum (I : Inputs F) (l s : ℕ) (c : Dev nD) (j : ℕ) : FVec F S64x256 .f32 := part (hid I l) (I.wo (lay l)) s c j

/-- What device `c` sends out of slot `i`. -/
def sent (I : Inputs F) (c : Dev nD) (i : ℕ) : FVec F S1x64x256 .bf16 := k0_pay4 (psum I (i / 12) (i / 4 % 3) c (i % 4))

/-- The result on device `c`, chunk `j` of its columns. -/
abbrev outc (I : Inputs F) (c : Dev nD) (j : ℕ) : FVec F S64x256 .f32 := psum I 2 3 c j

end Cert.KernelIdeal.Mlp

end
-- ==== Proof.Protocol.lean ====
/-
# The semaphores' schedule

Every device has a barrier cell and, per slot, a send cell and a receive cell. A barrier cell is signalled once by each of the
three partners; partner `k`'s signal hands over that partner's incoming slots of exchange `k`. A receive cell is credited by
the one copy into its slot, which hands over the slot filled; a send cell by the one copy out of its slot, which hands the slot
back.
-/
module

public import proofs.«01_k».proof.Proof.Values

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the staging pipeline's and the cells', whose duties are numbered 0, 1, 2. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A device's cells: its barrier, its send cells, its receive cells. -/
abbrev CI : Type := Unit ⊕ (Fin 36 ⊕ Fin 36)

/-- The slot semaphores a device's launch owns. -/
abbrev osem : Fin 36 ⊕ Fin 36 → SemLoc sig
  | .inl i => .dma (sendQ i.1 i.2)
  | .inr i => .dma (recvQ i.1 i.2)
/-- All of a device's cells' semaphores. -/
abbrev csem : CI → SemLoc sig
  | .inl _ => .reg barS
  | .inr k => osem k

abbrev kcell (ck : Dev nD × CI) : GSem nD τ sig := ((ck.1 : Thread nD τ), csem ck.2)
abbrev barCell (c : Dev nD) : GSem nD τ sig := ((c : Thread nD τ), .reg barS)
abbrev sendCell (c : Dev nD) (i : Fin 36) : GSem nD τ sig := ((c : Thread nD τ), .dma (sendQ i.1 i.2))
abbrev recvCell (c : Dev nD) (i : Fin 36) : GSem nD τ sig := ((c : Thread nD τ), .dma (recvQ i.1 i.2))

/-- The send semaphores are numbers 8 to 43 of the pool, the receive semaphores 44 to 79. -/
theorem sendQ_val (i : Fin 36) : (sendQ i.1 i.2).val = 8 + i.val := by revert i; decide +kernel
theorem recvQ_val (i : Fin 36) : (recvQ i.1 i.2).val = 44 + i.val := by revert i; decide +kernel

/-- Which cell of a device a semaphore is. -/
def decode : SemLoc sig → Option CI
  | .reg s => if s = barS then some (.inl ()) else none
  | .dma q => if q.val < 8 then none else if h : q.val - 8 < 36 then some (.inr (.inl ⟨q.val - 8, h⟩))
      else if h : q.val - 44 < 36 then some (.inr (.inr ⟨q.val - 44, h⟩)) else none

theorem decode_bar : decode (.reg barS) = some (.inl ()) := by simp [decode]
theorem decode_send (i : Fin 36) : decode (.dma (sendQ i.1 i.2)) = some (.inr (.inl i)) := by
  have := sendQ_val i
  have := i.isLt
  unfold decode
  dsimp only
  rw [if_neg (by omega), dif_pos (by omega)]
  congr 3; apply Fin.ext; show _ - 8 = i.val; omega
theorem decode_recv (i : Fin 36) : decode (.dma (recvQ i.1 i.2)) = some (.inr (.inr i)) := by
  have := recvQ_val i
  have := i.isLt
  unfold decode
  dsimp only
  rw [if_neg (by omega), dif_neg (by omega), dif_pos (by omega)]
  congr 3; apply Fin.ext; show _ - 44 = i.val; omega
theorem decode_csem (k : CI) : decode (csem k) = some k := by
  rcases k with _ | i | i
  · exact decode_bar
  · exact decode_send i
  · exact decode_recv i
theorem csem_injective : Function.Injective csem := fun a b h => by
  have := decode_csem a; rw [h, decode_csem] at this; exact (Option.some.inj this).symm

/-- The credit of one slot's copy. -/
abbrev N : ℕ := (rvSlot 0 (by decide)).view.dmaCredit
theorem N_pos : 0 < N := View.dmaCredit_pos _ (by decide)

/-! ## Slots and their contents -/

/-- Device `c`'s outgoing and incoming slot `i`, at contents `f`. -/
def sbPts (c : Dev nD) (i : Fin 36) (f : Buf (Elt F) ((sbSlot i.1 i.2).view.loc (c : Thread nD τ))) : sProp 𝕄 :=
  (sbSlot i.1 i.2).view.loc (c : Thread nD τ) ↦[(sbSlot i.1 i.2).view.set]{fullShare} f
def rvPts (c : Dev nD) (i : Fin 36) (f : Buf (Elt F) ((rvSlot i.1 i.2).view.loc (c : Thread nD τ))) : sProp 𝕄 :=
  (rvSlot i.1 i.2).view.loc (c : Thread nD τ) ↦[(rvSlot i.1 i.2).view.set]{fullShare} f
/-- The same at any contents. -/
def sbAny (c : Dev nD) (i : Fin 36) : sProp 𝕄 := iprop(∃ f, sbPts c i f)
def rvAny (c : Dev nD) (i : Fin 36) : sProp 𝕄 := iprop(∃ f, rvPts c i f)
/-- Incoming slot `i` of device `c`, holding what the partner sent. -/
def rvFull (I : Inputs F) (c : Dev nD) (i : Fin 36) : sProp 𝕄 :=
  iprop(∃ f : Buf (Elt F) ((rvSlot i.1 i.2).view.loc (c : Thread nD τ)), ⌜rvM.view.readAt (Elt F) (slotR i.1 i.2).toLoadRect f = sent I (peer (stp i.1) c) i.1⌝ ∗ rvPts c i f)

omit [FloatOps F] in
instance sbPts_storable (c : Dev nD) (i f) : BI.Storable (upEmb : UEmb _ 𝕄) (sbPts (F := F) c i f) := by unfold sbPts; infer_instance
omit [FloatOps F] in
instance rvPts_storable (c : Dev nD) (i f) : BI.Storable (upEmb : UEmb _ 𝕄) (rvPts (F := F) c i f) := by unfold rvPts; infer_instance
omit [FloatOps F] in
instance sbAny_storable (c : Dev nD) (i) : BI.Storable (upEmb : UEmb _ 𝕄) (sbAny (F := F) c i) := by unfold sbAny; infer_instance
omit [FloatOps F] in
instance rvAny_storable (c : Dev nD) (i) : BI.Storable (upEmb : UEmb _ 𝕄) (rvAny (F := F) c i) := by unfold rvAny; infer_instance
instance rvFull_storable (I : Inputs F) (c : Dev nD) (i) : BI.Storable (upEmb : UEmb _ 𝕄) (rvFull I c i) := by unfold rvFull; infer_instance

/-- The elements of a slot, as the loads and stores name them. -/
theorem sb_set {i : ℕ} (hi : i < 36) : (sbSlot i hi).view.set = (sbM.view.slice (slotR i hi)).set := View.set_reshape _ _
theorem rv_set {i : ℕ} (hi : i < 36) : (rvSlot i hi).view.set = (rvM.view.slice (slotR i hi)).set := View.set_reshape _ _

/-- Copied from one view re-indexed to another re-indexed alike, the contents read the same through the views. -/
theorem read_copied_view {Val : EltTy → Type} {sp : Space} {s s' : Shape} {e : EltTy} (v v' : View sig .tc sp s e) (h : s'.numel = s.numel)
    (f : v.ty.Contents Val) (g : v'.ty.Contents Val) :
    v.read Val ((v.reshape s' h).write Val f ((v'.reshape s' h).read Val g) Finset.univ) = v'.read Val g := by
  rw [View.write_reshape_univ, View.read_write_univ]
  funext x
  exact congrArg (v'.read Val g) (Equiv.apply_symm_apply (Shape.reshapeEquiv h) x)

omit [FloatOps F] in
/-- A copy carries a slot's contents over: the filled incoming slot reads as the outgoing slot did. -/
theorem read_copied {i : ℕ} (hi : i < 36) (fd : (cc0_scratch1 : Ref sig .tc).ty.Contents (Elt F)) (fs : (cc0_scratch0 : Ref sig .tc).ty.Contents (Elt F)) :
    rvM.view.readAt (Elt F) (slotR i hi).toLoadRect ((rvSlot i hi).view.write (Elt F) fd ((sbSlot i hi).view.read (Elt F) fs) Finset.univ)
      = sbM.view.readAt (Elt F) (slotR i hi).toLoadRect fs :=
  read_copied_view (rvM.view.slice (slotR i hi)) (sbM.view.slice (slotR i hi)) squeezes_S1x64x256_S64x256.numel_eq fd fs

omit [FloatOps F] in
/-- A stored slot reads back as what was stored. -/
theorem read_stored {i : ℕ} (hi : i < 36) (f : (cc0_scratch0 : Ref sig .tc).ty.Contents (Elt F)) (p : FVec F S1x64x256 .bf16) :
    sbM.view.readAt (Elt F) (slotR i hi).toLoadRect ((sbM.access (slotR i hi)).write (Elt F) f p Finset.univ) = p := by
  rw [View.readAt_rect]; exact View.read_write_univ _ _

/-! ## The schedule -/

/-- What partner `k`'s signal hands device `c`: that partner's incoming slots of exchange `k`. -/
def barPay (c : Dev nD) (k : Fin 3) : sProp 𝕄 := bigSep (Finset.univ.filter fun i : Fin 36 => stp i.1 = k) fun i => rvAny (peer k c) i

omit [FloatOps F] in
instance barPay_storable (c : Dev nD) (k) : BI.Storable (upEmb : UEmb _ 𝕄) (barPay (F := F) c k) := by unfold barPay; infer_instance

omit [FloatOps F] in
/-- All slots, or the slots exchange by exchange. -/
theorem by_exchange (Φ : Fin 36 → sProp 𝕄) :
    (bigSep Finset.univ fun k : Fin 3 => bigSep (Finset.univ.filter fun i : Fin 36 => stp i.1 = k) Φ) = bigSep Finset.univ Φ := by
  rw [bigSep_congr (s := Finset.univ) fun (k : Fin 3) _ => bigSep_filter Finset.univ (fun i : Fin 36 => stp i.1 = k) Φ, bigSep_univ_comm]
  refine bigSep_congr fun i _ => ?_
  rw [← bigSep_filter Finset.univ (fun k : Fin 3 => stp i.1 = k) (fun _ => Φ i), Finset.filter_eq, if_pos (Finset.mem_univ _), bigSep_singleton]

/-- A cell's duties of its one round, by the kind of cell; what each adds; what each hands over. -/
def dutiesOf : Option CI → Finset (Fin 3)
  | none => ∅
  | some (.inl _) => Finset.univ
  | some (.inr _) => {0}
def amountOf : Option CI → ℕ
  | some (.inl _) => 1
  | _ => N
def payOf (I : Inputs F) (c : Dev nD) (d : Fin 3) : Option CI → sProp 𝕄
  | none => iprop(emp)
  | some (.inl _) => barPay c d
  | some (.inr (.inl i)) => sbAny c i
  | some (.inr (.inr i)) => rvFull I c i

theorem amountOf_pos (o : Option CI) : 0 < amountOf o := by
  rcases o with _ | _ | _
  · exact N_pos
  · exact Nat.one_pos
  · exact N_pos

/-- The cells' schedule: one round each. -/
def sched (I : Inputs F) : Rounds.Schedule (GSem nD τ sig) (Fin 3) 𝕄 where
  duties g r := if r = 0 ∧ g.1.2 = .tc then dutiesOf (decode g.2) else ∅
  unitless _ := False
  amount g _ _ := amountOf (decode g.2)
  payload g _ d := payOf I g.1.1 d (decode g.2)
  amount_pos g _ _ _ := amountOf_pos _

instance sched_payload_storable (I : Inputs F) (g : GSem nD τ sig) (r : ℕ) (d : Fin 3) :
    BI.Storable (upEmb : UEmb _ 𝕄) ((sched I).payload g r d) := by
  show BI.Storable upEmb (payOf I g.1.1 d (decode g.2))
  rcases decode g.2 with _ | _ | _ | _ <;> (unfold payOf; infer_instance)

section Sched
variable (I : Inputs F) (c : Dev nD) (i : Fin 36)

theorem duties_bar : (sched I).duties (barCell c) 0 = Finset.univ := by
  dsimp only [sched]; rw [if_pos ⟨rfl, rfl⟩, decode_bar]; rfl
theorem duties_send : (sched I).duties (sendCell c i) 0 = {0} := by
  dsimp only [sched]; rw [if_pos ⟨rfl, rfl⟩, decode_send]; rfl
theorem duties_recv : (sched I).duties (recvCell c i) 0 = {0} := by
  dsimp only [sched]; rw [if_pos ⟨rfl, rfl⟩, decode_recv]; rfl
theorem duties_later (g : GSem nD τ sig) : ∀ r, 1 ≤ r → (sched I).duties g r = ∅ :=
  fun r hr => by dsimp only [sched]; rw [if_neg fun h => by omega]

theorem amount_bar (d : Fin 3) : (sched I).amount (barCell c) 0 d = 1 := by dsimp only [sched]; rw [decode_bar]; rfl
theorem amount_send (d : Fin 3) : (sched I).amount (sendCell c i) 0 d = N := by dsimp only [sched]; rw [decode_send]; rfl
theorem amount_recv (d : Fin 3) : (sched I).amount (recvCell c i) 0 d = N := by dsimp only [sched]; rw [decode_recv]; rfl

theorem expect_bar : (sched I).expect (barCell c) 0 = 3 := by
  unfold Schedule.expect Schedule.amountOf
  rw [duties_bar, Finset.sum_congr rfl fun d _ => amount_bar I c d, Finset.sum_const, Finset.card_univ, Fintype.card_fin, smul_eq_mul]
theorem expect_send : (sched I).expect (sendCell c i) 0 = N := by
  unfold Schedule.expect Schedule.amountOf; rw [duties_send, Finset.sum_singleton, amount_send]
theorem expect_recv : (sched I).expect (recvCell c i) 0 = N := by
  unfold Schedule.expect Schedule.amountOf; rw [duties_recv, Finset.sum_singleton, amount_recv]

theorem payload_bar (d : Fin 3) : (sched I).payload (barCell c) 0 d = barPay c d := by dsimp only [sched]; rw [decode_bar]; rfl
theorem payload_send (d : Fin 3) : (sched I).payload (sendCell c i) 0 d = sbAny c i := by dsimp only [sched]; rw [decode_send]; rfl
theorem payload_recv (d : Fin 3) : (sched I).payload (recvCell c i) 0 d = rvFull I c i := by dsimp only [sched]; rw [decode_recv]; rfl

/-- All that a barrier cell's round hands over: every incoming slot this device will copy into. -/
theorem rest_bar : bigSep ((sched I).duties (barCell c) 0 \ ∅) (fun d => (sched I).payload (barCell c) 0 d)
    = bigSep Finset.univ fun i : Fin 36 => rvAny (peer (stp i.1) c) i := by
  rw [Finset.sdiff_empty, duties_bar, bigSep_congr (s := Finset.univ) fun d _ => payload_bar I c d, ← by_exchange]
  refine bigSep_congr fun k _ => ?_
  unfold barPay
  exact bigSep_congr fun i hi => by rw [(Finset.mem_filter.mp hi).2]
theorem rest_send : bigSep ((sched I).duties (sendCell c i) 0 \ ∅) (fun d => (sched I).payload (sendCell c i) 0 d) = sbAny c i := by
  rw [Finset.sdiff_empty, duties_send, bigSep_singleton, payload_send]
theorem rest_recv : bigSep ((sched I).duties (recvCell c i) 0 \ ∅) (fun d => (sched I).payload (recvCell c i) 0 d) = rvFull I c i := by
  rw [Finset.sdiff_empty, duties_recv, bigSep_singleton, payload_recv]

end Sched

/-! ## What a device owes; levels -/

/-- What device `c` still owes once it has sent its first `n` slots. -/
def owedFrom (c : Dev nD) (n : ℕ) : CellTallies nD τ sig Unit :=
  ∑ i ∈ Finset.univ.filter (fun i : Fin 36 => n ≤ i.val), tallyAt (recvCell (peer (stp i.1) c) i) () N

theorem owedFrom_succ (c : Dev nD) (i : Fin 36) :
    owedFrom c i.val = owedFrom c (i.val + 1) + tallyAt (recvCell (peer (stp i.1) c) i) () N := by
  unfold owedFrom
  have h : (Finset.univ.filter fun j : Fin 36 => i.val ≤ j.val) = insert i (Finset.univ.filter fun j : Fin 36 => i.val + 1 ≤ j.val) := by
    ext j; simp only [Finset.mem_filter, Finset.mem_univ, true_and, Finset.mem_insert, Fin.ext_iff]; omega
  rw [h, Finset.sum_insert (by simp), add_comm]
theorem owedFrom_last (c : Dev nD) : owedFrom c 36 = 0 := by
  unfold owedFrom
  rw [Finset.filter_false_of_mem fun i _ => by have := i.isLt; omega, Finset.sum_empty]

/-- The debt before the handshake's third, second and first signal. -/
def O₂ (c : Dev nD) : CellTallies nD τ sig Unit := owedFrom c 0 + tallyAt (barCell (peer 2 c)) () 1
def O₁ (c : Dev nD) : CellTallies nD τ sig Unit := O₂ c + tallyAt (barCell (peer 1 c)) () 1
def O₀ (c : Dev nD) : CellTallies nD τ sig Unit := O₁ c + tallyAt (barCell (peer 0 c)) () 1

def L (g : GSem nD τ sig) : Finset Unit := if g.1.2 = .tc then {()} else ∅
/-- Barrier cells at 1, the receive cell of slot `i` at `i + 2`, all others at 0. -/
def lvOf : Option CI → ℕ
  | some (.inl _) => 1
  | some (.inr (.inr i)) => i.val + 2
  | _ => 0
def lv (g : GSem nD τ sig) (_ : Unit) : ℕ := lvOf (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [decode_bar]; rfl
theorem lv_recv (c : Dev nD) (i : Fin 36) (u : Unit) : lv (recvCell c i) u = i.val + 2 := by unfold lv; rw [decode_recv]; rfl

theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

/-- What is owed after `n` sends is owed to receive cells of slots from `n` on. -/
theorem owedFrom_pos {c : Dev nD} {n : ℕ} {g : GSem nD τ sig} {u : Unit} (h : 0 < owedFrom c n g u) :
    ∃ i : Fin 36, n ≤ i.val ∧ g = recvCell (peer (stp i.1) c) i := by
  unfold owedFrom at h
  rw [Finset.sum_apply, Finsupp.finset_sum_apply] at h
  obtain ⟨i, hi, hne⟩ := Finset.exists_ne_zero_of_sum_ne_zero (Nat.pos_iff_ne_zero.mp h)
  exact ⟨i, (Finset.mem_filter.mp hi).2, tallyAt_pos (Nat.pos_of_ne_zero hne)⟩

theorem O₀_pos {c : Dev nD} {g : GSem nD τ sig} {u : Unit} (h : 0 < O₀ c g u) :
    (∃ i : Fin 36, g = recvCell (peer (stp i.1) c) i) ∨ ∃ d : Dev nD, g = barCell d := by
  unfold O₀ O₁ O₂ at h
  rw [Pi.add_apply, Finsupp.add_apply, Pi.add_apply, Finsupp.add_apply, Pi.add_apply, Finsupp.add_apply] at h
  by_contra hn
  rw [not_or, not_exists, not_exists] at hn
  have h0 : owedFrom c 0 g u = 0 := Nat.eq_zero_of_not_pos fun h' => by obtain ⟨i, -, e⟩ := owedFrom_pos h'; exact hn.1 i e
  have hb (d : Dev nD) : (tallyAt (barCell d) () 1 : CellTallies nD τ sig Unit) g u = 0 := Nat.eq_zero_of_not_pos fun h' => hn.2 d (tallyAt_pos h')
  rw [h0, hb, hb, hb] at h
  exact Nat.lt_irrefl 0 h

omit [FloatOps F] in
/-- A wait on a cell of level `n` is allowed where every debt is owed to a cell of a higher level. -/
theorem mayWait_of (c : Dev nD) (sm : SemLoc sig) (n : ℕ) (O : CellTallies nD τ sig Unit) (hs : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

omit [FloatOps F] in
/-- A wait on a staging or send cell is allowed under the launch's debt. -/
theorem mayWait_O₀ (c : Dev nD) (sm : SemLoc sig) (hs : lv ((c : Thread nD τ), sm) () = 0) :
    (levAts L lv : sProp 𝕄) ⊢ MayWait (c : Thread nD τ) sm () (O₀ c) :=
  mayWait_of c sm 0 _ hs.le fun g u hg => by
    rcases O₀_pos hg with ⟨i, rfl⟩ | ⟨d, rfl⟩
    · rw [lv_recv]; exact ⟨rfl, by omega⟩
    · rw [lv_bar]; exact ⟨rfl, by omega⟩

omit [FloatOps F] in
/-- At the handshake's wait only receive cells are owed. -/
theorem mayWait_bar (c : Dev nD) : (levAts L lv : sProp 𝕄) ⊢ MayWait (c : Thread nD τ) (.reg barS) () (owedFrom c 0) :=
  mayWait_of c _ 1 _ (lv_bar c ()).le fun g u hg => by
    obtain ⟨i, -, rfl⟩ := owedFrom_pos hg
    rw [lv_recv]; exact ⟨rfl, by omega⟩

omit [FloatOps F] in
/-- At the wait for slot `i` only receive cells of later slots are owed. -/
theorem mayWait_recv (c : Dev nD) (i : Fin 36) {n : ℕ} (hn : i.val < n) :
    (levAts L lv : sProp 𝕄) ⊢ MayWait (c : Thread nD τ) (.dma (recvQ i.1 i.2)) () (owedFrom c n) :=
  mayWait_of c _ (i.val + 2) _ (lv_recv c i ()).le fun g u hg => by
    obtain ⟨j, hj, rfl⟩ := owedFrom_pos hg
    rw [lv_recv]; exact ⟨rfl, by omega⟩

end Cert.KernelIdeal.Mlp

end
-- ==== Proof.Steps.lean ====
/-
# One rule per kind of step

`St c ns nr nw` is what device `c` holds once it has sent `ns` slots, received `nr` and drained `nw`. Each kind of step moves
one of the three numbers up by one.
-/
module

public import proofs.«01_k».proof.Proof.Protocol

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## What is known throughout -/

/-- Every cell's invariant, that every cell has begun its round, and the levels. -/
def recs (I : Inputs F) (K : Dev nD × CI → ℕ) : sProp 𝕄 :=
  iprop((bigSep Finset.univ fun ck : Dev nD × CI => cellInv ER (sched I) (K ck) (kcell ck))
    ∗ (bigSep Finset.univ fun ck : Dev nD × CI => reached ER (kcell ck) 0) ∗ levAts L lv)

instance recs_persistent (I : Inputs F) (K : Dev nD × CI → ℕ) : BI.Persistent (recs I K) := by unfold recs; infer_instance

section Recs
variable (I : Inputs F) (K : Dev nD × CI → ℕ)

theorem recs_inv (ck : Dev nD × CI) : recs I K ⊢ cellInv ER (sched I) (K ck) (kcell ck) := by
  unfold recs
  iintro ⟨#H, -, -⟩
  iapply (show (bigSep Finset.univ fun ck : Dev nD × CI => (cellInv ER (sched I) (K ck) (kcell ck) : sProp 𝕄)) ⊢ cellInv ER (sched I) (K ck) (kcell ck) from bigSep_elim (Finset.mem_univ ck))
  iexact H
theorem recs_reached (ck : Dev nD × CI) : recs I K ⊢ reached ER (kcell ck) 0 := by
  unfold recs
  iintro ⟨-, #H, -⟩
  iapply (show (bigSep Finset.univ fun ck : Dev nD × CI => (reached ER (kcell ck) 0 : sProp 𝕄)) ⊢ reached ER (kcell ck) 0 from bigSep_elim (Finset.mem_univ ck))
  iexact H
theorem recs_lev : recs I K ⊢ levAts L lv := by
  unfold recs
  iintro ⟨-, -, #H⟩
  iexact H

end Recs

/-! ## The state -/

/-- Outgoing slot `i` when `ns` slots have been sent and `nw` drained: before its send, the slot, where it lands, and the rights
    to signal both ends; then the claim to the send cell's credit; drained, the slot and the closed cell. -/
def outPart (c : Dev nD) (ns nw : ℕ) (i : Fin 36) : sProp 𝕄 :=
  if ns ≤ i.val then iprop(sbAny c i ∗ rvAny (peer (stp i.1) c) i ∗ dutyTok ER (sendCell c i) 0 0
      ∗ dutyTok ER (recvCell (peer (stp i.1) c) i) 0 0 ∗ atPos ER (sendCell c i) 0 ∅ 0)
  else if nw ≤ i.val then iprop(cred (tallyAt (sendCell c i) () N) ∗ atPos ER (sendCell c i) 0 ∅ 0)
  else iprop(sbAny c i ∗ semVal (sendCell c i) 0)

/-- Incoming slot `i` when `nr` slots have been received: the claim to its credit, then the slot and the closed cell. -/
def inPart (c : Dev nD) (nr : ℕ) (i : Fin 36) : sProp 𝕄 :=
  if nr ≤ i.val then iprop(cred (tallyAt (recvCell c i) () N) ∗ atPos ER (recvCell c i) 0 ∅ 0)
  else iprop(rvAny c i ∗ semVal (recvCell c i) 0)

def St (c : Dev nD) (ns nr nw : ℕ) : sProp 𝕄 :=
  iprop((∃ W, owes (c : Thread nD τ) (owedFrom c ns) W) ∗ bigSep Finset.univ (outPart (F := F) c ns nw) ∗ bigSep Finset.univ (inPart (F := F) c nr))

section Parts
variable (c : Dev nD) (i : Fin 36)

omit [FloatOps F] in
theorem outPart_unsent {ns nw : ℕ} (h : ns ≤ i.val) : outPart (F := F) c ns nw i = iprop(sbAny c i ∗ rvAny (peer (stp i.1) c) i
    ∗ dutyTok ER (sendCell c i) 0 0 ∗ dutyTok ER (recvCell (peer (stp i.1) c) i) 0 0 ∗ atPos ER (sendCell c i) 0 ∅ 0) := if_pos h
omit [FloatOps F] in
theorem outPart_sent {ns nw : ℕ} (h : i.val < ns) (h' : nw ≤ i.val) : outPart (F := F) c ns nw i
    = iprop(cred (tallyAt (sendCell c i) () N) ∗ atPos ER (sendCell c i) 0 ∅ 0) := (if_neg (by omega)).trans (if_pos h')
omit [FloatOps F] in
theorem outPart_drained {ns nw : ℕ} (h : i.val < ns) (h' : i.val < nw) : outPart (F := F) c ns nw i
    = iprop(sbAny c i ∗ semVal (sendCell c i) 0) := (if_neg (by omega)).trans (if_neg (by omega))
omit [FloatOps F] in
theorem inPart_open {nr : ℕ} (h : nr ≤ i.val) : inPart (F := F) c nr i
    = iprop(cred (tallyAt (recvCell c i) () N) ∗ atPos ER (recvCell c i) 0 ∅ 0) := if_pos h
omit [FloatOps F] in
theorem inPart_done {nr : ℕ} (h : i.val < nr) : inPart (F := F) c nr i = iprop(rvAny c i ∗ semVal (recvCell c i) 0) := if_neg (by omega)

omit [FloatOps F] in
/-- Sending slot `i` changes slot `i`'s part only. -/
theorem out_send : bigSep Finset.univ (outPart (F := F) c i.val 0)
    ⊢ iprop((sbAny c i ∗ rvAny (peer (stp i.1) c) i ∗ dutyTok ER (sendCell c i) 0 0 ∗ dutyTok ER (recvCell (peer (stp i.1) c) i) 0 0 ∗ atPos ER (sendCell c i) 0 ∅ 0)
      ∗ ((cred (tallyAt (sendCell c i) () N) ∗ atPos ER (sendCell c i) 0 ∅ 0) -∗ bigSep Finset.univ (outPart (F := F) c (i.val + 1) 0))) := by
  have h := bigSep_univ_update (Φ := outPart (F := F) c i.val 0) (Ψ := outPart c (i.val + 1) 0) i fun j hj => by
    have : j.val ≠ i.val := fun e => hj (Fin.ext e)
    unfold outPart
    by_cases hle : i.val ≤ j.val
    · rw [if_pos hle, if_pos (by omega)]
    · rw [if_neg hle, if_neg (by omega)]
  rw [outPart_unsent c i le_rfl, outPart_sent c i (Nat.lt_succ_self _) (Nat.zero_le _)] at h
  exact h

omit [FloatOps F] in
/-- So does draining it. -/
theorem out_drain : bigSep Finset.univ (outPart (F := F) c 36 i.val)
    ⊢ iprop((cred (tallyAt (sendCell c i) () N) ∗ atPos ER (sendCell c i) 0 ∅ 0)
      ∗ ((sbAny c i ∗ semVal (sendCell c i) 0) -∗ bigSep Finset.univ (outPart (F := F) c 36 (i.val + 1)))) := by
  have h := bigSep_univ_update (Φ := outPart (F := F) c 36 i.val) (Ψ := outPart c 36 (i.val + 1)) i fun j hj => by
    have : j.val ≠ i.val := fun e => hj (Fin.ext e)
    unfold outPart
    by_cases hle : i.val ≤ j.val
    · rw [if_pos hle, if_pos (show i.val + 1 ≤ j.val by omega)]
    · rw [if_neg hle, if_neg (show ¬ i.val + 1 ≤ j.val by omega)]
  rw [outPart_sent c i i.isLt le_rfl, outPart_drained c i i.isLt (Nat.lt_succ_self _)] at h
  exact h

omit [FloatOps F] in
/-- Receiving slot `i` changes slot `i`'s part only. -/
theorem in_recv : bigSep Finset.univ (inPart (F := F) c i.val)
    ⊢ iprop((cred (tallyAt (recvCell c i) () N) ∗ atPos ER (recvCell c i) 0 ∅ 0)
      ∗ ((rvAny c i ∗ semVal (recvCell c i) 0) -∗ bigSep Finset.univ (inPart (F := F) c (i.val + 1)))) := by
  have h := bigSep_univ_update (Φ := inPart (F := F) c i.val) (Ψ := inPart c (i.val + 1)) i fun j hj => by
    have : j.val ≠ i.val := fun e => hj (Fin.ext e)
    unfold inPart
    by_cases hle : i.val ≤ j.val
    · rw [if_pos hle, if_pos (by omega)]
    · rw [if_neg hle, if_neg (by omega)]
  rw [inPart_open c i le_rfl, inPart_done c i (Nat.lt_succ_self _)] at h
  exact h

end Parts

/-! ## The steps -/

section Steps
variable (I : Inputs F) (K : Dev nD × CI → ℕ) (c : Dev nD)

/-- The copy of slot `i`, the slot holding what is to be sent. -/
theorem wp_copy_slot (i : Fin 36) (n : Dev nD) (hn : n = peer (stp i.1) c)
    {hsc : (rvSlot i.1 i.2 : Memref sig (Dev.tc n : Thread nD τ).2.kind .vmem S64x256 .bf16).view.ref.isScScratch = false}
    {hsrc : (sbSlot i.1 i.2).view.WordExact} {hdst : (rvSlot i.1 i.2).view.WordExact}
    {hsem : DmaTarget.Typed .vmem (.dma (recvQ i.1 i.2)) (.remote (Dev.tc n : Thread nD τ) (rvSlot i.1 i.2) (.dma (sendQ i.1 i.2)) hsc)}
    {Q : PUnit → sProp 𝕄} {k : PUnit → P F} (fs : Buf (Elt F) ((sbSlot i.1 i.2).view.loc (c : Thread nD τ)))
    (hfs : sbM.view.readAt (Elt F) (slotR i.1 i.2).toLoadRect fs = sent I c i.1)
    (fd : Buf (Elt F) ((rvSlot i.1 i.2).view.loc (peer (stp i.1) c : Thread nD τ))) (W : Waits sig Unit) :
    iprop(recs I K ∗ sbPts c i fs ∗ rvPts (peer (stp i.1) c) i fd ∗ owes (c : Thread nD τ) (owedFrom c i.val) W
        ∗ dutyTok ER (sendCell c i) 0 0 ∗ dutyTok ER (recvCell (peer (stp i.1) c) i) 0 0)
      ⊢ iprop(((cred (tallyAt (sendCell c i) () N) ∗ owes (c : Thread nD τ) (owedFrom c (i.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbSlot i.1 i.2) (.remote (Dev.tc n : Thread nD τ) (rvSlot i.1 i.2) (.dma (sendQ i.1 i.2)) hsc) (.dma (recvQ i.1 i.2)) hsrc hdst hsem) k) Q) := by
  subst hn
  unfold sbPts rvPts
  refine BIBase.Entails.trans ?_ (Rounds.wp_send_pointsTo 𝒱₀ ER (sched I) (c : Thread nD τ) none (κ₁ := K (c, .inr (.inl i))) (κ₂ := K (peer (stp i.1) c, .inr (.inr i)))
    (q := fullShare) (fs := fs) (r₁ := 0) (r₂ := 0) (d₁ := 0) (d₂ := 0) (fd := fd)
    (by rw [duties_send]; exact Finset.mem_singleton_self _) (by rw [duties_recv]; exact Finset.mem_singleton_self _)
    () () N rfl (amount_send I c i 0) (amount_recv I (peer (stp i.1) c) i 0) (owedFrom c (i.val + 1)) (owedFrom_succ c i) (W := W)
    (by rw [payload_send]; unfold sbAny sbPts; iintro H; iexists fs; iexact H)
    (by
      rw [payload_recv]; unfold rvFull rvPts; iintro H; iexists _; isplitr
      · ipureintro; rw [peer_peer]; exact (read_copied i.2 fd fs).trans hfs
      · iexact H))
  iintro ⟨#HR, Hs, Hd, HO, Ht1, Ht2⟩
  isplitr; · iapply (recs_inv I K (c, .inr (.inl i))); iexact HR
  isplitr; · iapply (recs_inv I K (peer (stp i.1) c, .inr (.inr i))); iexact HR
  isplitl [Hs]; · iexact Hs
  isplitl [Hd]; · iexact Hd
  isplitl [HO]; · iexact HO
  isplitl [Ht1]; · iexact Ht1
  isplitr; · iapply (recs_reached I K (c, .inr (.inl i))); iexact HR
  isplitl [Ht2]; · iexact Ht2
  iapply (recs_reached I K (peer (stp i.1) c, .inr (.inr i))); iexact HR

/-- Filling slot `i` with what is to be sent and copying it out. -/
theorem wp_sendStep (i nr : ℕ) (hi : i < 36) (n : Dev nD) (hn : n = peer (stp i) c) (p : FVec F S1x64x256 .bf16) (hp : p = sent I c i) (k : P F) (Q : PUnit → sProp 𝕄) :
    iprop(recs I K ∗ St c i nr 0)
      ⊢ iprop((St c (i + 1) nr 0 -∗ wp frame (wpE (defs₀ (F := F)) 𝒱₀ (c : Thread nD τ) none) Set.univ k Q)
          -∗ wp frame (wpE (defs₀ (F := F)) 𝒱₀ (c : Thread nD τ) none) Set.univ (sendStep i hi n p k) Q) := by
  subst hp
  unfold St sendStep
  iintro ⟨#HR, ⟨%W, HO⟩, Hout, Hin⟩ Hk
  ihave H := (out_send (F := F) c ⟨i, hi⟩) $$ Hout
  unfold sbAny rvAny sbPts
  icases H with ⟨⟨⟨%f, Hs⟩, ⟨%fd, Hd⟩, Ht1, Ht2, Hat⟩, Hback⟩
  iapply (wp_load 𝒱₀ (c : Thread nD τ) none Set.univ (m := sbM) (r := (slotR i hi).toLoadRect) (S := (sbSlot i hi).view.set) (by
    rw [sb_set]; exact (View.set_slice sbM.view (slotR i hi)).symm.subset)) $$ Hs
  iintro Hs
  iapply (wp_store 𝒱₀ (c : Thread nD τ) none Set.univ (m := sbM) (r := slotR i hi) (Mk := Finset.univ) (S := (sbSlot i hi).view.set) (by
    rw [sb_set]; exact Finset.Subset.refl _)) $$ Hs
  iintro Hs
  iapply (wp_copy_slot I K c ⟨i, hi⟩ n hn _ (read_stored hi f (sent I c i)) fd W) $$ [Hs Hd HO Ht1 Ht2]
  · isplitr; · iexact HR
    isplitl [Hs]; · unfold sbPts; iexact Hs
    isplitl [Hd]; · iexact Hd
    isplitl [HO]; · iexact HO
    isplitl [Ht1]; · iexact Ht1
    iexact Ht2
  iintro ⟨Hc, HO⟩
  iapply Hk
  isplitl [HO]; · iexists W; iexact HO
  isplitl [Hc Hat Hback]
  · iapply Hback; isplitl [Hc] <;> iassumption
  iexact Hin

/-- Waiting for slot `i` and reading it: the partner's value. -/
theorem wp_recvStep (i ns : ℕ) (hi : i < 36) (hns : i < ns) (k : Vec F S1x64x256 .bf16 → P F) (Q : PUnit → sProp 𝕄) :
    iprop(recs I K ∗ St c ns i 0)
      ⊢ iprop((St c ns (i + 1) 0 -∗ wp frame (wpE (defs₀ (F := F)) 𝒱₀ (c : Thread nD τ) none) Set.univ (k (sent I (peer (stp i) c) i)) Q)
          -∗ wp frame (wpE (defs₀ (F := F)) 𝒱₀ (c : Thread nD τ) none) Set.univ (recvStep i hi k) Q) := by
  unfold St recvStep
  iintro ⟨#HR, ⟨%W, HO⟩, Hout, Hin⟩ Hk
  ihave H := (in_recv (F := F) c ⟨i, hi⟩) $$ Hin
  icases H with ⟨⟨Hc, Hat⟩, Hback⟩
  iapply (Rounds.wp_wait_rest_token 𝒱₀ ER (sched I) (c : Thread nD τ) none (κ := K (c, .inr (.inr ⟨i, hi⟩)))
      (wpE_waitDma2_eq 𝒱₀ (c : Thread nD τ) none Set.univ) (Set.mem_univ _) () (O := owedFrom c ns) (W := W) (R := 0) (m := 0) (T := ∅)
      (by rw [Nat.zero_add]; exact (expect_recv I c ⟨i, hi⟩).symm)) $$ [Hc HO Hat]
  · isplitr; · iapply (recs_inv I K (c, .inr (.inr ⟨i, hi⟩))); iexact HR
    isplitl [Hc]; · iexact Hc
    isplitl [HO]; · iexact HO
    isplitr; · iapply (mayWait_recv (F := F) c ⟨i, hi⟩ hns); iapply (recs_lev I K); iexact HR
    iexact Hat
  iintro ⟨HO, Hat, -, Hpay⟩
  ihave Hp := (Entails.of_eq (rest_recv I c ⟨i, hi⟩)) $$ Hpay
  unfold rvFull rvPts
  icases Hp with ⟨%f, %hf, Hr⟩
  imod (Rounds.cell_close ER (sched I) (Set.mem_univ (K (c, .inr (.inr ⟨i, hi⟩)))) (fun h => h) (R := 0 + 1) (duties_later I (recvCell c ⟨i, hi⟩))) $$ [Hat] with Hz
  · isplitr; · iapply (recs_inv I K (c, .inr (.inr ⟨i, hi⟩))); iexact HR
    iexact Hat
  iapply (wp_load 𝒱₀ (c : Thread nD τ) none Set.univ (m := rvM) (r := (slotR i hi).toLoadRect) (S := (rvSlot i hi).view.set) (by
    rw [rv_set]; exact (View.set_slice rvM.view (slotR i hi)).symm.subset)) $$ Hr
  iintro Hr
  rw [hf]
  iapply Hk
  isplitl [HO]; · iexists _; iexact HO
  isplitl [Hout]; · iexact Hout
  iapply Hback
  isplitl [Hr]
  · unfold rvAny rvPts; iexists f; iexact Hr
  iexact Hz

/-- Draining slot `i`. -/
theorem wp_drainStep (i : ℕ) (hi : i < 36) (k : P F) (Q : PUnit → sProp 𝕄) :
    iprop(recs I K ∗ St c 36 36 i)
      ⊢ iprop((St c 36 36 (i + 1) -∗ wp frame (wpE (defs₀ (F := F)) 𝒱₀ (c : Thread nD τ) none) Set.univ k Q)
          -∗ wp frame (wpE (defs₀ (F := F)) 𝒱₀ (c : Thread nD τ) none) Set.univ (drainStep i hi k) Q) := by
  unfold St drainStep
  rw [owedFrom_last]
  iintro ⟨#HR, ⟨%W, HO⟩, Hout, Hin⟩ Hk
  ihave H := (out_drain (F := F) c ⟨i, hi⟩) $$ Hout
  icases H with ⟨⟨Hc, Hat⟩, Hback⟩
  iapply (Rounds.wp_wait_rest_token 𝒱₀ ER (sched I) (c : Thread nD τ) none (κ := K (c, .inr (.inl ⟨i, hi⟩)))
      (wpE_waitDma2_eq 𝒱₀ (c : Thread nD τ) none Set.univ) (Set.mem_univ _) () (O := 0) (W := W) (R := 0) (m := 0) (T := ∅)
      (by rw [Nat.zero_add]; exact (expect_send I c ⟨i, hi⟩).symm)) $$ [Hc HO Hat]
  · isplitr; · iapply (recs_inv I K (c, .inr (.inl ⟨i, hi⟩))); iexact HR
    isplitl [Hc]; · iexact Hc
    isplitl [HO]; · iexact HO
    isplitr; · rw [MayWait_zero]; iempintro
    iexact Hat
  iintro ⟨HO, Hat, -, Hpay⟩
  ihave Hp := (Entails.of_eq (rest_send I c ⟨i, hi⟩)) $$ Hpay
  imod (Rounds.cell_close ER (sched I) (Set.mem_univ (K (c, .inr (.inl ⟨i, hi⟩)))) (fun h => h) (R := 0 + 1) (duties_later I (sendCell c ⟨i, hi⟩))) $$ [Hat] with Hz
  · isplitr; · iapply (recs_inv I K (c, .inr (.inl ⟨i, hi⟩))); iexact HR
    iexact Hat
  iapply Hk
  isplitl [HO]; · iexists _; iexact HO
  isplitr [Hin]
  · iapply Hback
    isplitl [Hp] <;> iassumption
  iexact Hin

end Steps

end Cert.KernelIdeal.Mlp

end
-- ==== Proof.Body.lean ====
/-
# The body run from the handshake to the last drain

The rules for the groups of steps, then the three layers and the whole program.
-/
module

public import proofs.«01_k».proof.Proof.Steps
public import Idealize.ShloMosaic.Lib.WritesUnit
public import Idealize.ShloMosaic.Lib.Pointwise.Index

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Device `c` runs `p` safely to `Q`. -/
abbrev Runs (c : Dev nD) (p : P F) (Q : PUnit → sProp 𝕄) : sProp 𝕄 := wp frame (wpE (defs₀ (F := F)) 𝒱₀ (c : Thread nD τ) none) Set.univ p Q

section Groups
variable (I : Inputs F) (K : Dev nD × CI → ℕ) (c : Dev nD)

/-! ## Groups of steps -/

/-- The four chunks sent in slots `b .. b+3`. -/
theorem wp_send4 (b nr : ℕ) (hb : b + 3 < 36) (n : Dev nD) (hn : ∀ j < 4, n = peer (stp (b + j)) c) (p0 p1 p2 p3 : FVec F S64x256 .f32)
    (h0 : k0_pay4 p0 = sent I c b) (h1 : k0_pay4 p1 = sent I c (b + 1)) (h2 : k0_pay4 p2 = sent I c (b + 2)) (h3 : k0_pay4 p3 = sent I c (b + 3))
    (k : P F) (Q : PUnit → sProp 𝕄) :
    iprop(recs I K ∗ St c b nr 0) ⊢ iprop((St c (b + 4) nr 0 -∗ Runs c k Q) -∗ Runs c (send4 b hb n p0 p1 p2 p3 k) Q) := by
  unfold send4
  iintro ⟨#HR, H⟩ Hk
  iapply (wp_sendStep I K c b nr _ n (hn 0 (by omega)) _ h0) $$ [H]
  · isplitr; · iexact HR
    iexact H
  iintro H
  iapply (wp_sendStep I K c (b + 1) nr _ n (hn 1 (by omega)) _ h1) $$ [H]
  · isplitr; · iexact HR
    iexact H
  iintro H
  iapply (wp_sendStep I K c (b + 2) nr _ n (hn 2 (by omega)) _ h2) $$ [H]
  · isplitr; · iexact HR
    iexact H
  iintro H
  iapply (wp_sendStep I K c (b + 3) nr _ n (hn 3 (by omega)) _ h3) $$ [H]
  · isplitr; · iexact HR
    iexact H
  iexact Hk

/-- One slot received, its sum with the running chunk sent on. -/
theorem wp_recv_send (b : ℕ) (hb : b + 4 < 36) (n : Dev nD) (hn : n = peer (stp (b + 4)) c) (p a : FVec F S64x256 .f32)
    (ha : k0_pay12 p (sent I (peer (stp b) c) b) = a) (hs : k0_pay4 a = sent I c (b + 4)) (k : FVec F S64x256 .f32 → P F) (Q : PUnit → sProp 𝕄) :
    iprop(recs I K ∗ St c (b + 4) b 0) ⊢ iprop((St c (b + 5) (b + 1) 0 -∗ Runs c (k a) Q)
      -∗ Runs c (recvStep b (by omega) fun r => sendStep (b + 4) hb n (k0_pay4 (k0_pay12 p r)) (k (k0_pay12 p r))) Q) := by
  subst ha
  iintro ⟨#HR, H⟩ Hk
  iapply (wp_recvStep I K c b (b + 4) _ (by omega)) $$ [H]
  · isplitr; · iexact HR
    iexact H
  iintro H
  iapply (wp_sendStep I K c (b + 4) (b + 1) _ n hn _ hs) $$ [H]
  · isplitr; · iexact HR
    iexact H
  iexact Hk

/-- One exchange: each chunk received, added and sent on. -/
theorem wp_exch4 (b : ℕ) (hb : b + 7 < 36) (n : Dev nD) (hn : ∀ j < 4, n = peer (stp (b + 4 + j)) c) (p0 p1 p2 p3 a0 a1 a2 a3 : FVec F S64x256 .f32)
    (h0 : k0_pay12 p0 (sent I (peer (stp b) c) b) = a0) (h1 : k0_pay12 p1 (sent I (peer (stp (b + 1)) c) (b + 1)) = a1)
    (h2 : k0_pay12 p2 (sent I (peer (stp (b + 2)) c) (b + 2)) = a2) (h3 : k0_pay12 p3 (sent I (peer (stp (b + 3)) c) (b + 3)) = a3)
    (s0 : k0_pay4 a0 = sent I c (b + 4)) (s1 : k0_pay4 a1 = sent I c (b + 5)) (s2 : k0_pay4 a2 = sent I c (b + 6)) (s3 : k0_pay4 a3 = sent I c (b + 7))
    (k : FVec F S64x256 .f32 → FVec F S64x256 .f32 → FVec F S64x256 .f32 → FVec F S64x256 .f32 → P F) (Q : PUnit → sProp 𝕄) :
    iprop(recs I K ∗ St c (b + 4) b 0) ⊢ iprop((St c (b + 8) (b + 4) 0 -∗ Runs c (k a0 a1 a2 a3) Q) -∗ Runs c (exch4 b hb n p0 p1 p2 p3 k) Q) := by
  unfold exch4
  iintro ⟨#HR, H⟩ Hk
  iapply (wp_recv_send I K c b _ n (hn 0 (by omega)) p0 a0 h0 s0 (fun a0 => recvStep (b + 1) _ fun r1 => sendStep (b + 5) _ n (k0_pay4 (k0_pay12 p1 r1)) <|
    recvStep (b + 2) _ fun r2 => sendStep (b + 6) _ n (k0_pay4 (k0_pay12 p2 r2)) <|
    recvStep (b + 3) _ fun r3 => sendStep (b + 7) hb n (k0_pay4 (k0_pay12 p3 r3)) <| k a0 (k0_pay12 p1 r1) (k0_pay12 p2 r2) (k0_pay12 p3 r3))) $$ [H]
  · isplitr; · iexact HR
    iexact H
  iintro H
  iapply (wp_recv_send I K c (b + 1) _ n (hn 1 (by omega)) p1 a1 h1 s1 (fun a1 =>
    recvStep (b + 2) _ fun r2 => sendStep (b + 6) _ n (k0_pay4 (k0_pay12 p2 r2)) <|
    recvStep (b + 3) _ fun r3 => sendStep (b + 7) hb n (k0_pay4 (k0_pay12 p3 r3)) <| k a0 a1 (k0_pay12 p2 r2) (k0_pay12 p3 r3))) $$ [H]
  · isplitr; · iexact HR
    iexact H
  iintro H
  iapply (wp_recv_send I K c (b + 2) _ n (hn 2 (by omega)) p2 a2 h2 s2 (fun a2 =>
    recvStep (b + 3) _ fun r3 => sendStep (b + 7) hb n (k0_pay4 (k0_pay12 p3 r3)) <| k a0 a1 a2 (k0_pay12 p3 r3))) $$ [H]
  · isplitr; · iexact HR
    iexact H
  iintro H
  iapply (wp_recv_send I K c (b + 3) _ n (hn 3 (by omega)) p3 a3 h3 s3 (fun a3 => k a0 a1 a2 a3)) $$ [H]
  · isplitr; · iexact HR
    iexact H
  iexact Hk

/-- The last four slots of a layer received and added. -/
theorem wp_last4 (b : ℕ) (hb : b + 3 < 36) (p0 p1 p2 p3 a0 a1 a2 a3 : FVec F S64x256 .f32)
    (h0 : k0_pay12 p0 (sent I (peer (stp b) c) b) = a0) (h1 : k0_pay12 p1 (sent I (peer (stp (b + 1)) c) (b + 1)) = a1)
    (h2 : k0_pay12 p2 (sent I (peer (stp (b + 2)) c) (b + 2)) = a2) (h3 : k0_pay12 p3 (sent I (peer (stp (b + 3)) c) (b + 3)) = a3)
    (k : FVec F S64x256 .f32 → FVec F S64x256 .f32 → FVec F S64x256 .f32 → FVec F S64x256 .f32 → P F) (Q : PUnit → sProp 𝕄) :
    iprop(recs I K ∗ St c (b + 4) b 0) ⊢ iprop((St c (b + 4) (b + 4) 0 -∗ Runs c (k a0 a1 a2 a3) Q) -∗ Runs c (last4 b hb p0 p1 p2 p3 k) Q) := by
  subst h0 h1 h2 h3
  unfold last4
  iintro ⟨#HR, H⟩ Hk
  iapply (wp_recvStep I K c b (b + 4) _ (by omega)) $$ [H]
  · isplitr; · iexact HR
    iexact H
  iintro H
  iapply (wp_recvStep I K c (b + 1) (b + 4) _ (by omega)) $$ [H]
  · isplitr; · iexact HR
    iexact H
  iintro H
  iapply (wp_recvStep I K c (b + 2) (b + 4) _ (by omega)) $$ [H]
  · isplitr; · iexact HR
    iexact H
  iintro H
  iapply (wp_recvStep I K c (b + 3) (b + 4) _ (by omega)) $$ [H]
  · isplitr; · iexact HR
    iexact H
  iexact Hk

/-- The outgoing slots `b .. b+n-1` drained, at the program's end. -/
theorem wp_drains (Q : PUnit → sProp 𝕄) : ∀ (n b : ℕ) (h : b + n ≤ 36),
    iprop(recs I K ∗ St c 36 36 b) ⊢ iprop((St c 36 36 (b + n) -∗ Q ⟨⟩) -∗ Runs c (drains b n h) Q)
  | 0, b, h => by
    unfold drains
    iintro ⟨-, H⟩ Hk
    unfold Runs
    rw [wp_ret]
    imodintro
    iapply Hk
    iexact H
  | n + 1, b, h => by
    unfold drains
    iintro ⟨#HR, H⟩ Hk
    iapply (wp_drainStep I K c b _) $$ [H]
    · isplitr; · iexact HR
      iexact H
    iintro H
    iapply (wp_drains Q n (b + 1) _) $$ [H]
    · isplitr; · iexact HR
      iexact H
    rw [show b + 1 + n = b + (n + 1) by omega]
    iexact Hk

/-! ## Reading the staged inputs, writing the result -/

/-- A whole staged buffer read. -/
theorem wp_readWhole {a b : ℕ} (M : Memref sig .tc .vmem ⟨2, ![a, b]⟩ .f32)
    (h : ∀ x, (![0, 0] : Fin 2 → Nat) x + (⟨2, ![a, b]⟩ : Shape).size x ≤ (⟨2, ![a, b]⟩ : Shape).size x)
    (hp : 0 < (⟨2, ![a, b]⟩ : Shape).numel) (f : Buf (Elt F) (M.view.loc (c : Thread nD τ))) (v : Vec F ⟨2, ![a, b]⟩ .f32)
    (hv : M.view.readAt (Elt F) (Rect.unit (s := ⟨2, ![a, b]⟩) ![0, 0] (⟨2, ![a, b]⟩ : Shape).size h).toLoadRect f = v)
    (k : Vec F ⟨2, ![a, b]⟩ .f32 → P F) (Q : PUnit → sProp 𝕄) :
    ((M.view.loc (c : Thread nD τ)) ↦{fullShare} f : sProp 𝕄)
      ⊢ iprop((((M.view.loc (c : Thread nD τ)) ↦{fullShare} f) -∗ Runs c (k v) Q) -∗ Runs c (readWhole M h hp k) Q) := by
  subst hv
  unfold readWhole
  iintro H Hk
  iapply (wp_load 𝒱₀ (c : Thread nD τ) none Set.univ (m := M) (Finset.subset_univ _)) $$ H
  iexact Hk

omit [FloatOps F] in
theorem hz : (![0, 0] : Fin 2 → Nat) = fun _ => 0 := funext fun a => by fin_cases a <;> rfl

/-- One chunk of the result written. -/
theorem wp_outStep (o : ℕ) (h : ∀ a, (![0, o] : Fin 2 → Nat) a + S64x256.size a ≤ S64x1024.size a) (v : FVec F S64x256 .f32)
    (f : Buf (Elt F) (outM.view.loc (c : Thread nD τ))) (k : P F) (Q : PUnit → sProp 𝕄) :
    ((outM.view.loc (c : Thread nD τ)) ↦{fullShare} f : sProp 𝕄)
      ⊢ iprop((((outM.view.loc (c : Thread nD τ)) ↦{fullShare} ((outM.access (Rect.unit (s := S64x1024) ![0, o] S64x256.size h)).write (Elt F) f v Finset.univ)) -∗ Runs c k Q)
        -∗ Runs c (outStep o h v k) Q) := by
  unfold outStep
  iintro H Hk
  iapply (wp_load 𝒱₀ (c : Thread nD τ) none Set.univ (m := outM) (Finset.subset_univ _)) $$ H
  iintro H
  iapply (wp_store 𝒱₀ (c : Thread nD τ) none Set.univ (m := outM) (r := Rect.unit (s := S64x1024) ![0, o] S64x256.size h) (Mk := Finset.univ) (Finset.subset_univ _)) $$ H
  iexact Hk

end Groups

/-- Four chunks of 256 columns side by side. -/
def beside (v : ℕ → FVec F S64x256 .f32) : FVec F S64x1024 .f32 := fun y =>
  v ((y 1).val / 256) (ix2 (n0 := 64) (n1 := 256) (y 0) ⟨(y 1).val % 256, Nat.mod_lt _ (by decide)⟩)

omit [FloatOps F] in
/-- The four chunks written one after the other are the result, whatever the buffer held. -/
theorem written (f : (cc0_stg7_0 : Ref sig .tc).ty.Contents (Elt F)) (v : ℕ → FVec F S64x256 .f32) :
    outM.view.writes (Elt F) f [⟨Rect.unit (s := S64x1024) ![0, 768] S64x256.size inb_S64x1024_S64x256_0_768, v 3⟩,
      ⟨Rect.unit (s := S64x1024) ![0, 512] S64x256.size inb_S64x1024_S64x256_0_512, v 2⟩,
      ⟨Rect.unit (s := S64x1024) ![0, 256] S64x256.size inb_S64x1024_S64x256_0_256, v 1⟩,
      ⟨Rect.unit (s := S64x1024) ![0, 0] S64x256.size inb_S64x1024_S64x256_0_0, v 0⟩] = beside v := by
  refine (View.read_whole cc0_stg7_0 _).symm.trans (funext fun (y : S64x1024.Idx) => ?_)
  have hy : (y 1).val < 1024 := (y 1).isLt
  have hit (o : ℕ) (h : ∀ a, (![0, o] : Fin 2 → Nat) a + S64x256.size a ≤ S64x1024.size a) (w : FVec F S64x256 .f32) (T : List (View.Piece (Elt F) S64x1024 .f32)) (j : ℕ)
      (ho : o = 256 * j) (hj : (y 1).val / 256 = j) :
      outM.view.read (Elt F) (outM.view.writes (Elt F) f (⟨Rect.unit (s := S64x1024) ![0, o] S64x256.size h, w⟩ :: T)) y
        = w (ix2 (n0 := 64) (n1 := 256) (y 0) ⟨(y 1).val % 256, Nat.mod_lt _ (by decide)⟩) :=
    View.read_writes_cons_unit_of_mem outM.view f h w T y _ rfl (Fin.forall_fin_two.mpr ⟨(Nat.zero_add _).symm, by
      show (y 1).val = o + (y 1).val % 256; omega⟩)
  have miss (o : ℕ) (h : ∀ a, (![0, o] : Fin 2 → Nat) a + S64x256.size a ≤ S64x1024.size a) (w : FVec F S64x256 .f32) (T : List (View.Piece (Elt F) S64x1024 .f32))
      (ho : (y 1).val < o) :
      outM.view.read (Elt F) (outM.view.writes (Elt F) f (⟨Rect.unit (s := S64x1024) ![0, o] S64x256.size h, w⟩ :: T)) y
        = outM.view.read (Elt F) (outM.view.writes (Elt F) f T) y :=
    View.read_writes_cons_unit_of_not_mem outM.view f h w T y rfl (1 : Fin 2) (Or.inl ho)
  show outM.view.read (Elt F) _ y = beside v y
  unfold beside
  have hlt : (y 1).val / 256 < 4 := by omega
  generalize hq : (y 1).val / 256 = q at hlt
  rcases q with _ | _ | _ | _ | q
  · rw [miss _ _ _ _ (by omega), miss _ _ _ _ (by omega), miss _ _ _ _ (by omega), hit _ _ _ _ 0 rfl hq]
  · rw [miss _ _ _ _ (by omega), miss _ _ _ _ (by omega), hit _ _ _ _ 1 rfl hq]
  · rw [miss _ _ _ _ (by omega), hit _ _ _ _ 2 rfl hq]
  · rw [hit _ _ _ _ 3 rfl hq]
  · omega

/-- The kernel's result on device `c`. -/
def outVal (I : Inputs F) (c : Dev nD) : FVec F S64x1024 .f32 := beside (outc I c)

section Layers
variable (I : Inputs F) (K : Dev nD × CI → ℕ) (c : Dev nD)

/-- The last exchange's slots received and the result written. -/
theorem wp_finish4 (k : P F) (Q : PUnit → sProp 𝕄) (f : Buf (Elt F) (outM.view.loc (c : Thread nD τ))) :
    iprop(recs I K ∗ St c 36 32 0 ∗ ((outM.view.loc (c : Thread nD τ)) ↦{fullShare} f))
      ⊢ iprop(((St c 36 36 0 ∗ ((outM.view.loc (c : Thread nD τ)) ↦{fullShare} (outVal I c : Buf (Elt F) (outM.view.loc (c : Thread nD τ))))) -∗ Runs c k Q)
        -∗ Runs c (finish4 (psum I 2 2 c 0) (psum I 2 2 c 1) (psum I 2 2 c 2) (psum I 2 2 c 3) k) Q) := by
  unfold finish4
  iintro ⟨#HR, H, Ho⟩ Hk
  iapply (wp_recvStep I K c 32 36 _ (by omega)) $$ [H]
  · isplitr; · iexact HR
    iexact H
  iintro H
  iapply (wp_outStep c 0) $$ Ho; iintro Ho
  iapply (wp_recvStep I K c 33 36 _ (by omega)) $$ [H]
  · isplitr; · iexact HR
    iexact H
  iintro H
  iapply (wp_outStep c 256) $$ Ho; iintro Ho
  iapply (wp_recvStep I K c 34 36 _ (by omega)) $$ [H]
  · isplitr; · iexact HR
    iexact H
  iintro H
  iapply (wp_outStep c 512) $$ Ho; iintro Ho
  iapply (wp_recvStep I K c 35 36 _ (by omega)) $$ [H]
  · isplitr; · iexact HR
    iexact H
  iintro H
  iapply (wp_outStep c 768) $$ Ho; iintro Ho
  iapply Hk
  isplitl [H]; · iexact H
  unfold outVal
  rw [← written (F := F) f (outc I c)]
  iexact Ho

/-- The staged inputs on device `c`. -/
def stgIn : sProp 𝕄 :=
  iprop(((xM.view.loc (c : Thread nD τ)) ↦{fullShare} (I.x c : Buf (Elt F) (xM.view.loc (c : Thread nD τ))))
    ∗ ((wi0M.view.loc (c : Thread nD τ)) ↦{fullShare} (I.wi 0 c : Buf (Elt F) (wi0M.view.loc (c : Thread nD τ))))
    ∗ ((wo0M.view.loc (c : Thread nD τ)) ↦{fullShare} (I.wo 0 c : Buf (Elt F) (wo0M.view.loc (c : Thread nD τ))))
    ∗ ((wi1M.view.loc (c : Thread nD τ)) ↦{fullShare} (I.wi 1 c : Buf (Elt F) (wi1M.view.loc (c : Thread nD τ))))
    ∗ ((wo1M.view.loc (c : Thread nD τ)) ↦{fullShare} (I.wo 1 c : Buf (Elt F) (wo1M.view.loc (c : Thread nD τ))))
    ∗ ((wi2M.view.loc (c : Thread nD τ)) ↦{fullShare} (I.wi 2 c : Buf (Elt F) (wi2M.view.loc (c : Thread nD τ))))
    ∗ ((wo2M.view.loc (c : Thread nD τ)) ↦{fullShare} (I.wo 2 c : Buf (Elt F) (wo2M.view.loc (c : Thread nD τ)))))

/-- The staged result on device `c`. -/
abbrev outPts (f : Buf (Elt F) (outM.view.loc (c : Thread nD τ))) : sProp 𝕄 := iprop((outM.view.loc (c : Thread nD τ)) ↦{fullShare} f)

theorem peers4 (b : ℕ) (s : Fin 3) (n : Dev nD) (hn : n = peer s c) (hs : ∀ j < 4, stp (b + j) = s) : ∀ j < 4, n = peer (stp (b + j)) c :=
  fun j hj => by rw [hs j hj]; exact hn

/-- Layer 2. -/
theorem wp_layer2 (Q : PUnit → sProp 𝕄) (f : Buf (Elt F) (outM.view.loc (c : Thread nD τ))) :
    iprop(recs I K ∗ St c 24 24 0 ∗ stgIn I c ∗ outPts c f)
      ⊢ iprop(((St c 36 36 36 ∗ stgIn I c ∗ outPts c (outVal I c : Buf (Elt F) (outM.view.loc (c : Thread nD τ)))) -∗ Q ⟨⟩)
        -∗ Runs c (layer2 c (hid I 2 c)) Q) := by
  unfold stgIn layer2
  iintro ⟨#HR, H, ⟨H0, H1, H2, H3, H4, H5, H6⟩, Ho⟩ Hk
  iapply (wp_readWhole c wo2M inb_S2048x1024_S2048x1024_0_0 h_S2048x1024 _ (I.wo 2 c) (Memref.readAt_unit_zero (Elt F) cc0_stg6_0 hz _ _)) $$ H6; iintro H6
  iapply (wp_send4 I K c 24 24 (by decide) (dv0 c) (peers4 c 24 0 _ (dv0_eq c) (by decide)) _ _ _ _ rfl rfl rfl rfl) $$ [H]
  · isplitr; · iexact HR
    iexact H
  iintro H
  iapply (wp_exch4 I K c 24 (by decide) (dv1 c) (peers4 c 28 1 _ (dv1_eq c) (by decide)) _ _ _ _ (psum I 2 1 c 0) (psum I 2 1 c 1) (psum I 2 1 c 2) (psum I 2 1 c 3)
    rfl rfl rfl rfl rfl rfl rfl rfl) $$ [H]
  · isplitr; · iexact HR
    iexact H
  iintro H
  iapply (wp_exch4 I K c 28 (by decide) (dv2 c) (peers4 c 32 2 _ (dv2_eq c) (by decide)) _ _ _ _ (psum I 2 2 c 0) (psum I 2 2 c 1) (psum I 2 2 c 2) (psum I 2 2 c 3)
    rfl rfl rfl rfl rfl rfl rfl rfl) $$ [H]
  · isplitr; · iexact HR
    iexact H
  iintro H
  iapply (wp_finish4 I K c) $$ [H Ho]
  · isplitr; · iexact HR
    isplitl [H]; · iexact H
    iexact Ho
  iintro ⟨H, Ho⟩
  iapply (wp_drains I K c Q 36 0 _) $$ [H]
  · isplitr; · iexact HR
    iexact H
  iintro H
  iapply Hk
  isplitl [H]; · iexact H
  isplitr [Ho]
  · isplitl [H0]; · iexact H0
    isplitl [H1]; · iexact H1
    isplitl [H2]; · iexact H2
    isplitl [H3]; · iexact H3
    isplitl [H4]; · iexact H4
    isplitl [H5]; · iexact H5
    iexact H6
  iexact Ho

/-- Layers 1 and 2. -/
theorem wp_layer1 (Q : PUnit → sProp 𝕄) (f : Buf (Elt F) (outM.view.loc (c : Thread nD τ))) :
    iprop(recs I K ∗ St c 12 12 0 ∗ stgIn I c ∗ outPts c f)
      ⊢ iprop(((St c 36 36 36 ∗ stgIn I c ∗ outPts c (outVal I c : Buf (Elt F) (outM.view.loc (c : Thread nD τ)))) -∗ Q ⟨⟩)
        -∗ Runs c (layer1 c (hid I 1 c)) Q) := by
  have h2 := wp_layer2 I K c Q f
  unfold stgIn at h2 ⊢
  unfold layer1
  iintro ⟨#HR, H, ⟨H0, H1, H2, H3, H4, H5, H6⟩, Ho⟩ Hk
  iapply (wp_readWhole c wo1M inb_S2048x1024_S2048x1024_0_0 h_S2048x1024 _ (I.wo 1 c) (Memref.readAt_unit_zero (Elt F) cc0_stg4_0 hz _ _)) $$ H4; iintro H4
  iapply (wp_send4 I K c 12 12 (by decide) (dv0 c) (peers4 c 12 0 _ (dv0_eq c) (by decide)) _ _ _ _ rfl rfl rfl rfl) $$ [H]
  · isplitr; · iexact HR
    iexact H
  iintro H
  iapply (wp_readWhole c wi2M inb_S1024x2048_S1024x2048_0_0 h_S1024x2048 _ (I.wi 2 c) (Memref.readAt_unit_zero (Elt F) cc0_stg5_0 hz _ _)) $$ H5; iintro H5
  iapply (wp_exch4 I K c 12 (by decide) (dv1 c) (peers4 c 16 1 _ (dv1_eq c) (by decide)) _ _ _ _ (psum I 1 1 c 0) (psum I 1 1 c 1) (psum I 1 1 c 2) (psum I 1 1 c 3)
    rfl rfl rfl rfl rfl rfl rfl rfl) $$ [H]
  · isplitr; · iexact HR
    iexact H
  iintro H
  iapply (wp_exch4 I K c 16 (by decide) (dv2 c) (peers4 c 20 2 _ (dv2_eq c) (by decide)) _ _ _ _ (psum I 1 2 c 0) (psum I 1 2 c 1) (psum I 1 2 c 2) (psum I 1 2 c 3)
    rfl rfl rfl rfl rfl rfl rfl rfl) $$ [H]
  · isplitr; · iexact HR
    iexact H
  iintro H
  iapply (wp_last4 I K c 20 (by decide) _ _ _ _ (psum I 1 3 c 0) (psum I 1 3 c 1) (psum I 1 3 c 2) (psum I 1 3 c 3) rfl rfl rfl rfl) $$ [H]
  · isplitr; · iexact HR
    iexact H
  iintro H
  iapply h2 $$ [H H0 H1 H2 H3 H4 H5 H6 Ho]
  · isplitr; · iexact HR
    isplitl [H]; · iexact H
    isplitr [Ho]
    · isplitl [H0]; · iexact H0
      isplitl [H1]; · iexact H1
      isplitl [H2]; · iexact H2
      isplitl [H3]; · iexact H3
      isplitl [H4]; · iexact H4
      isplitl [H5]; · iexact H5
      iexact H6
    iexact Ho
  iexact Hk

/-- All three layers. -/
theorem wp_layer0 (Q : PUnit → sProp 𝕄) (f : Buf (Elt F) (outM.view.loc (c : Thread nD τ))) :
    iprop(recs I K ∗ St c 0 0 0 ∗ stgIn I c ∗ outPts c f)
      ⊢ iprop(((St c 36 36 36 ∗ stgIn I c ∗ outPts c (outVal I c : Buf (Elt F) (outM.view.loc (c : Thread nD τ)))) -∗ Q ⟨⟩)
        -∗ Runs c (layer0 c) Q) := by
  have h1 := wp_layer1 I K c Q f
  unfold stgIn at h1 ⊢
  unfold layer0
  iintro ⟨#HR, H, ⟨H0, H1, H2, H3, H4, H5, H6⟩, Ho⟩ Hk
  iapply (wp_readWhole c xM inb_S64x1024_S64x1024_0_0 h_S64x1024 _ (I.x c) (Memref.readAt_unit_zero (Elt F) cc0_stg0_0 hz _ _)) $$ H0; iintro H0
  iapply (wp_readWhole c wi0M inb_S1024x2048_S1024x2048_0_0 h_S1024x2048 _ (I.wi 0 c) (Memref.readAt_unit_zero (Elt F) cc0_stg1_0 hz _ _)) $$ H1; iintro H1
  iapply (wp_readWhole c wo0M inb_S2048x1024_S2048x1024_0_0 h_S2048x1024 _ (I.wo 0 c) (Memref.readAt_unit_zero (Elt F) cc0_stg2_0 hz _ _)) $$ H2; iintro H2
  iapply (wp_send4 I K c 0 0 (by decide) (dv0 c) (peers4 c 0 0 _ (dv0_eq c) (by decide)) _ _ _ _ rfl rfl rfl rfl) $$ [H]
  · isplitr; · iexact HR
    iexact H
  iintro H
  iapply (wp_readWhole c wi1M inb_S1024x2048_S1024x2048_0_0 h_S1024x2048 _ (I.wi 1 c) (Memref.readAt_unit_zero (Elt F) cc0_stg3_0 hz _ _)) $$ H3; iintro H3
  iapply (wp_exch4 I K c 0 (by decide) (dv1 c) (peers4 c 4 1 _ (dv1_eq c) (by decide)) _ _ _ _ (psum I 0 1 c 0) (psum I 0 1 c 1) (psum I 0 1 c 2) (psum I 0 1 c 3)
    rfl rfl rfl rfl rfl rfl rfl rfl) $$ [H]
  · isplitr; · iexact HR
    iexact H
  iintro H
  iapply (wp_exch4 I K c 4 (by decide) (dv2 c) (peers4 c 8 2 _ (dv2_eq c) (by decide)) _ _ _ _ (psum I 0 2 c 0) (psum I 0 2 c 1) (psum I 0 2 c 2) (psum I 0 2 c 3)
    rfl rfl rfl rfl rfl rfl rfl rfl) $$ [H]
  · isplitr; · iexact HR
    iexact H
  iintro H
  iapply (wp_last4 I K c 8 (by decide) _ _ _ _ (psum I 0 3 c 0) (psum I 0 3 c 1) (psum I 0 3 c 2) (psum I 0 3 c 3) rfl rfl rfl rfl) $$ [H]
  · isplitr; · iexact HR
    iexact H
  iintro H
  iapply h1 $$ [H H0 H1 H2 H3 H4 H5 H6 Ho]
  · isplitr; · iexact HR
    isplitl [H]; · iexact H
    isplitr [Ho]
    · isplitl [H0]; · iexact H0
      isplitl [H1]; · iexact H1
      isplitl [H2]; · iexact H2
      isplitl [H3]; · iexact H3
      isplitl [H4]; · iexact H4
      isplitl [H5]; · iexact H5
      iexact H6
    iexact Ho
  iexact Hk

end Layers

end Cert.KernelIdeal.Mlp

end
-- ==== Proof.Handshake.lean ====
/-
# The whole program, from the handshake on

The two exchange buffers are cut into their slots; the handshake hands every device the slots it will copy into; the three
layers follow; the slots are put together again.
-/
module

public import proofs.«01_k».proof.Proof.Body
public import Idealize.ShloMosaic.Lib.ReshapeSlab

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A buffer and its slots -/

/-- Two slots share no element. -/
theorem slots_disjoint (v : View sig .tc .vmem S36x64x256 .bf16) (i j : Fin 36) (h : i ≠ j) :
    Disjoint (v.slice (slotR i.1 i.2)).set (v.slice (slotR j.1 j.2)).set :=
  View.disjoint_slice_of_sep v _ _ (0 : Fin 3) rfl rfl (by
    have : i.val ≠ j.val := fun e => h (Fin.ext e)
    show i.val + 1 ≤ j.val ∨ j.val + 1 ≤ i.val
    omega)

/-- Every element of a buffer is in a slot. -/
theorem slots_cover : (Finset.univ.biUnion fun i : Fin 36 => (slotR i.1 i.2).set) = (Finset.univ : Finset S36x64x256.Idx) := by
  refine Finset.eq_univ_of_forall fun y => Finset.mem_biUnion.mpr ⟨y 0, Finset.mem_univ _, Rect.mem_set_unit.mpr fun a => ?_⟩
  match a with
  | ⟨0, _⟩ => exact ⟨Nat.le_refl _, Nat.lt_succ_self _⟩
  | ⟨1, _⟩ => exact ⟨Nat.zero_le _, by show (y 1).val < 0 + 64; rw [Nat.zero_add]; exact (y 1).isLt⟩
  | ⟨2, _⟩ => exact ⟨Nat.zero_le _, by show (y 2).val < 0 + 256; rw [Nat.zero_add]; exact (y 2).isLt⟩

theorem sb_cover : (Finset.univ.biUnion fun i : Fin 36 => (sbSlot i.1 i.2).view.set) = (Finset.univ : Finset (cc0_scratch0 : Ref sig .tc).ty.Idx) := by
  rw [← slots_cover]
  exact Finset.biUnion_congr rfl fun i _ => (sb_set i.2).trans (View.set_slice_whole cc0_scratch0 _)
theorem rv_cover : (Finset.univ.biUnion fun i : Fin 36 => (rvSlot i.1 i.2).view.set) = (Finset.univ : Finset (cc0_scratch1 : Ref sig .tc).ty.Idx) := by
  rw [← slots_cover]
  exact Finset.biUnion_congr rfl fun i _ => (rv_set i.2).trans (View.set_slice_whole cc0_scratch1 _)

theorem sb_disjoint : ∀ i ∈ (Finset.univ : Finset (Fin 36)), ∀ j ∈ (Finset.univ : Finset (Fin 36)), i ≠ j → Disjoint (sbSlot i.1 i.2).view.set (sbSlot j.1 j.2).view.set :=
  fun i _ j _ h => by rw [sb_set, sb_set]; exact slots_disjoint sbM.view i j h
theorem rv_disjoint : ∀ i ∈ (Finset.univ : Finset (Fin 36)), ∀ j ∈ (Finset.univ : Finset (Fin 36)), i ≠ j → Disjoint (rvSlot i.1 i.2).view.set (rvSlot j.1 j.2).view.set :=
  fun i _ j _ h => by rw [rv_set, rv_set]; exact slots_disjoint rvM.view i j h

section Slots
variable (c : Dev nD)

omit [FloatOps F] in
/-- The outgoing buffer cut into its slots. -/
theorem sb_cut (f : Buf (Elt F) ((c : Thread nD τ).loc cc0_scratch0)) :
    (((c : Thread nD τ).loc cc0_scratch0) ↦{fullShare} f : sProp 𝕄) ⊢ bigSep Finset.univ fun i : Fin 36 => sbAny (F := F) c i := by
  refine BIBase.Entails.trans (Entails.of_eq ?_) (bigSep_mono fun i _ => show sbPts (F := F) c i f ⊢ sbAny c i from by unfold sbAny; iintro H; iexists f; iexact H)
  unfold sbPts
  refine Eq.trans ?_ (pointsTo_biUnion (ℓ := (c : Thread nD τ).loc cc0_scratch0) Finset.univ (fun i : Fin 36 => (sbSlot i.1 i.2).view.set) sb_disjoint)
  rw [sb_cover]
omit [FloatOps F] in
/-- The incoming buffer cut into its slots. -/
theorem rv_cut (f : Buf (Elt F) ((c : Thread nD τ).loc cc0_scratch1)) :
    (((c : Thread nD τ).loc cc0_scratch1) ↦{fullShare} f : sProp 𝕄) ⊢ bigSep Finset.univ fun i : Fin 36 => rvAny (F := F) c i := by
  refine BIBase.Entails.trans (Entails.of_eq ?_) (bigSep_mono fun i _ => show rvPts (F := F) c i f ⊢ rvAny c i from by unfold rvAny; iintro H; iexists f; iexact H)
  unfold rvPts
  refine Eq.trans ?_ (pointsTo_biUnion (ℓ := (c : Thread nD τ).loc cc0_scratch1) Finset.univ (fun i : Fin 36 => (rvSlot i.1 i.2).view.set) rv_disjoint)
  rw [rv_cover]

/-- The outgoing buffer put together from its slots. -/
theorem sb_join : (bigSep Finset.univ fun i : Fin 36 => sbAny (F := F) c i : sProp 𝕄)
    ⊢ iprop(∃ f : Buf (Elt F) ((c : Thread nD τ).loc cc0_scratch0), ((c : Thread nD τ).loc cc0_scratch0) ↦{fullShare} f) := by
  unfold sbAny sbPts
  iintro H
  ihave H := (bigSep_exists_pi Finset.univ fun (i : Fin 36) (f : Buf (Elt F) ((sbSlot i.1 i.2).view.loc (c : Thread nD τ))) =>
    (((sbSlot i.1 i.2).view.loc (c : Thread nD τ)) ↦[(sbSlot i.1 i.2).view.set]{fullShare} f : sProp 𝕄)) $$ H
  icases H with ⟨%fs, H⟩
  ihave H := (pointsTo_biUnion_join (ℓ := (c : Thread nD τ).loc cc0_scratch0) Finset.univ (fun i : Fin 36 => (sbSlot i.1 i.2).view.set) fs (fs 0) sb_disjoint) $$ H
  icases H with ⟨%g, -, H⟩
  iexists g
  rw [sb_cover]
  iexact H
/-- The incoming buffer put together from its slots. -/
theorem rv_join : (bigSep Finset.univ fun i : Fin 36 => rvAny (F := F) c i : sProp 𝕄)
    ⊢ iprop(∃ f : Buf (Elt F) ((c : Thread nD τ).loc cc0_scratch1), ((c : Thread nD τ).loc cc0_scratch1) ↦{fullShare} f) := by
  unfold rvAny rvPts
  iintro H
  ihave H := (bigSep_exists_pi Finset.univ fun (i : Fin 36) (f : Buf (Elt F) ((rvSlot i.1 i.2).view.loc (c : Thread nD τ))) =>
    (((rvSlot i.1 i.2).view.loc (c : Thread nD τ)) ↦[(rvSlot i.1 i.2).view.set]{fullShare} f : sProp 𝕄)) $$ H
  icases H with ⟨%fs, H⟩
  ihave H := (pointsTo_biUnion_join (ℓ := (c : Thread nD τ).loc cc0_scratch1) Finset.univ (fun i : Fin 36 => (rvSlot i.1 i.2).view.set) fs (fs 0) rv_disjoint) $$ H
  icases H with ⟨%g, -, H⟩
  iexists g
  rw [rv_cover]
  iexact H

end Slots

/-! ## The handshake -/

section Handshake
variable (I : Inputs F) (K : Dev nD × CI → ℕ) (c : Dev nD)

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ

/-- The rights to signal both ends of each copy, and the positions of the send cells. -/
def outToks (c : Dev nD) : sProp 𝕄 :=
  iprop((bigSep Finset.univ fun i : Fin 36 => dutyTok ER (sendCell c i) 0 0)
    ∗ (bigSep Finset.univ fun i : Fin 36 => dutyTok ER (recvCell (peer (stp i.1) c) i) 0 0)
    ∗ bigSep Finset.univ fun i : Fin 36 => atPos ER (sendCell c i) 0 ∅ 0)
/-- What a device holds for the handshake. -/
def barToks (c : Dev nD) : sProp 𝕄 :=
  iprop(atPos ER (barCell c) 0 ∅ 0 ∗ cred (tallyAt (barCell c) () 3) ∗ bigSep Finset.univ fun d : Fin 3 => dutyTok ER (barCell (peer d c)) 0 d)
/-- What a device holds for its incoming slots. -/
def inToks (c : Dev nD) : sProp 𝕄 :=
  iprop((bigSep Finset.univ fun i : Fin 36 => cred (tallyAt (recvCell c i) () N)) ∗ bigSep Finset.univ fun i : Fin 36 => atPos ER (recvCell c i) 0 ∅ 0)

omit [FloatOps F] in
/-- The slots and the rights make up the state before the first send. -/
theorem St_start : iprop((∃ W, owes (c : Thread nD τ) (owedFrom c 0) W) ∗ (bigSep Finset.univ fun i : Fin 36 => sbAny (F := F) c i)
      ∗ (bigSep Finset.univ fun i : Fin 36 => rvAny (F := F) (peer (stp i.1) c) i) ∗ outToks c ∗ inToks c) ⊢ St (F := F) c 0 0 0 := by
  unfold St outToks inToks
  rw [bigSep_congr (s := Finset.univ) fun (i : Fin 36) _ => outPart_unsent (F := F) c i (Nat.zero_le i.val) (nw := 0),
    bigSep_congr (s := Finset.univ) fun (i : Fin 36) _ => inPart_open (F := F) c i (Nat.zero_le i.val)]
  simp only [bigSep_sep']
  iintro ⟨HO, Hs, Hr, ⟨H1, H2, H3⟩, H4, H5⟩
  isplitl [HO]; · iexact HO
  isplitr [H4 H5]
  · isplitl [Hs]; · iexact Hs
    isplitl [Hr]; · iexact Hr
    isplitl [H1]; · iexact H1
    isplitl [H2]; · iexact H2
    iexact H3
  isplitl [H4]; · iexact H4
  iexact H5

omit [FloatOps F] in
/-- After the last drain: nothing owed, the slots and the closed cells. -/
theorem St_end : St (F := F) c 36 36 36
    ⊢ iprop((∃ W, owes (c : Thread nD τ) (0 : CellTallies nD τ sig Unit) W) ∗ (bigSep Finset.univ fun i : Fin 36 => sbAny (F := F) c i)
      ∗ (bigSep Finset.univ fun i : Fin 36 => semVal (sendCell c i) 0)
      ∗ (bigSep Finset.univ fun i : Fin 36 => rvAny (F := F) c i) ∗ bigSep Finset.univ fun i : Fin 36 => semVal (recvCell c i) 0) := by
  unfold St
  rw [owedFrom_last, bigSep_congr (s := Finset.univ) fun (i : Fin 36) _ => outPart_drained (F := F) c i i.isLt i.isLt,
    bigSep_congr (s := Finset.univ) fun (i : Fin 36) _ => inPart_done (F := F) c i i.isLt]
  simp only [bigSep_sep']
  iintro ⟨HO, ⟨H1, H2⟩, H3, H4⟩
  isplitl [HO]; · iexact HO
  isplitl [H1]; · iexact H1
  isplitl [H2]; · iexact H2
  isplitl [H3]; · iexact H3
  iexact H4

/-- One signal of the handshake: to partner `d`, handing over the incoming slots of exchange `d`. -/
theorem wp_hello (d : Fin 3) (n : Dev nD) (hn : n = peer d c) (O O' : CellTallies nD τ sig Unit) (hO : O' = O + tallyAt (barCell (peer d c)) () 1)
    (W : Waits sig Unit) (k : PUnit → P F) (Q : PUnit → sProp 𝕄) :
    iprop(recs I K ∗ owes (c : Thread nD τ) O' W ∗ dutyTok ER (barCell (peer d c)) 0 d
        ∗ bigSep (Finset.univ.filter fun i : Fin 36 => stp i.1 = d) fun i => rvAny (F := F) c i)
      ⊢ iprop((owes (c : Thread nD τ) O W -∗ Runs c (k ⟨⟩) Q) -∗ Runs c (.op (.semSignal (Dev.tc n) barS (1#32 : BitVec 32).toInt) k) Q) := by
  subst hn
  iintro ⟨#HR, HO, Ht, Hr⟩
  iapply (Rounds.wp_signal 𝒱₀ ER (sched I) (c : Thread nD τ) none (dst := (peer d c : Thread nD τ)) (κ := K (peer d c, .inl ()))
      (d := d) (by rw [duties_bar]; exact Finset.mem_univ _) ((amount_bar I (peer d c) d).trans (by decide)) () O hO)
  isplitr; · iapply (recs_inv I K (peer d c, .inl ())); iexact HR
  isplitl [HO]; · iexact HO
  isplitl [Ht]; · iexact Ht
  isplitl [Hr]
  · rw [payload_bar]; unfold barPay; rw [peer_peer]; iexact Hr
  · iapply (recs_reached I K (peer d c, .inl ())); iexact HR

/-- The program, from the launch's deal to its end. -/
theorem wp_program (f : Buf (Elt F) (outM.view.loc (c : Thread nD τ))) (W : Waits sig Unit) (Q : PUnit → sProp 𝕄) :
    iprop(recs I K ∗ owes (c : Thread nD τ) (O₀ c) W ∗ (barToks c ∗ outToks c ∗ inToks c)
        ∗ (bigSep Finset.univ fun i : Fin 36 => sbAny (F := F) c i) ∗ (bigSep Finset.univ fun i : Fin 36 => rvAny (F := F) c i)
        ∗ stgIn I c ∗ outPts c f)
      ⊢ iprop(((semVal (barCell c) 0 ∗ St c 36 36 36 ∗ stgIn I c ∗ outPts c (outVal I c : Buf (Elt F) (outM.view.loc (c : Thread nD τ)))) -∗ Q ⟨⟩)
          -∗ Runs c program Q) := by
  unfold program barToks
  rw [← by_exchange (F := F) (fun i => rvAny c i), bigSep_three, bigSep_three]
  iintro ⟨#HR, HO, ⟨⟨Hat, Hc, Ht0, Ht1, Ht2⟩, Hout, Hin⟩, Hs, ⟨Hr0, Hr1, Hr2⟩, Hstg, Ho⟩ Hk
  unfold Runs
  rw [wp_deviceId]
  iapply (wp_hello I K c 0 _ (dev1_eq c) (O₁ c) (O₀ c) rfl W) $$ [HO Ht0 Hr0]
  · isplitr; · iexact HR
    isplitl [HO]; · iexact HO
    isplitl [Ht0] <;> iassumption
  iintro HO
  iapply (wp_hello I K c 1 _ (dev2_eq c) (O₂ c) (O₁ c) rfl W) $$ [HO Ht1 Hr1]
  · isplitr; · iexact HR
    isplitl [HO]; · iexact HO
    isplitl [Ht1] <;> iassumption
  iintro HO
  iapply (wp_hello I K c 2 _ (dev3_eq c) (owedFrom c 0) (O₂ c) rfl W) $$ [HO Ht2 Hr2]
  · isplitr; · iexact HR
    isplitl [HO]; · iexact HO
    isplitl [Ht2] <;> iassumption
  iintro HO
  iapply (Rounds.wp_wait_rest_token 𝒱₀ ER (sched I) (c : Thread nD τ) none (κ := K (c, .inl ()))
      (wpE_semWait_eq 𝒱₀ (c : Thread nD τ) none Set.univ) (Set.mem_univ _) () (O := owedFrom c 0) (W := W) (R := 0) (m := 0) (T := ∅)
      (by rw [expect_bar]; decide)) $$ [Hc HO Hat]
  · isplitr; · iapply (recs_inv I K (c, .inl ())); iexact HR
    isplitl [Hc]; · iexact Hc
    isplitl [HO]; · iexact HO
    isplitr; · iapply (mayWait_bar (F := F) c); iapply (recs_lev I K); iexact HR
    iexact Hat
  iintro ⟨HO, Hat, -, Hpay⟩
  ihave Hr := (Entails.of_eq (rest_bar I c)) $$ Hpay
  imod (Rounds.cell_close ER (sched I) (Set.mem_univ (K (c, .inl ()))) (fun h => h) (R := 0 + 1) (duties_later I (barCell c))) $$ [Hat] with Hz
  · isplitr; · iapply (recs_inv I K (c, .inl ())); iexact HR
    iexact Hat
  ihave HSt := (St_start (F := F) c) $$ [HO Hs Hr Hout Hin]
  · isplitl [HO]; · iexists _; iexact HO
    isplitl [Hs]; · iexact Hs
    isplitl [Hr]; · iexact Hr
    isplitl [Hout] <;> iassumption
  iapply (wp_layer0 I K c Q f) $$ [HSt Hstg Ho]
  · isplitr; · iexact HR
    isplitl [HSt]; · iexact HSt
    isplitl [Hstg] <;> iassumption
  iintro ⟨HSt, Hstg, Ho⟩
  iapply Hk
  isplitl [Hz]; · iexact Hz
  isplitl [HSt]; · iexact HSt
  isplitl [Hstg] <;> iassumption

end Handshake

end Cert.KernelIdeal.Mlp

end
-- ==== Proof.Launch.lean ====
/-
# The launch

The pipeline's proof data, the body's obligation, the deal of the cells and their tokens to the devices, and the run of the
whole mesh.
-/
module

public import proofs.«01_k».proof.Proof.Handshake
public import Idealize.ShloMosaic.Lib.Pipeline.CollectiveSegs
public import Idealize.ShloMosaic.Lib.Pipeline.Value

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The machine at the start: any memory, every counter zero. -/
def s₀ : MemSt nD τ sig (Elt F) := ⟨m, fun _ => 0, ρ⟩

/-- The inputs a memory holds, as the launch stages them. -/
def inp : Inputs F where
  x c := (win0_0.blk t0_0).view.read (Elt F) (m ((c : Thread nD τ).loc main_arg0))
  wi l c := match l with
    | 0 => (win0_1.blk t0_0).view.read (Elt F) (m ((c : Thread nD τ).loc main_arg1))
    | 1 => (win0_3.blk t0_0).view.read (Elt F) (m ((c : Thread nD τ).loc main_arg3))
    | 2 => (win0_5.blk t0_0).view.read (Elt F) (m ((c : Thread nD τ).loc main_arg5))
  wo l c := match l with
    | 0 => (win0_2.blk t0_0).view.read (Elt F) (m ((c : Thread nD τ).loc main_arg2))
    | 1 => (win0_4.blk t0_0).view.read (Elt F) (m ((c : Thread nD τ).loc main_arg4))
    | 2 => (win0_6.blk t0_0).view.read (Elt F) (m ((c : Thread nD τ).loc main_arg6))

/-! ## The pipeline's proof data -/

/-- What a device's body starts from, beside its exchange buffers. -/
def start (c : Dev nD) : sProp 𝕄 := iprop((∃ K, recs (inp m) K) ∗ barToks c ∗ outToks c ∗ inToks c)

/-- Before the body: that, and the exchange buffers. -/
def Φ₀ (c : Dev nD) : sProp 𝕄 :=
  iprop(start m c ∗ (∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)
/-- After it: the buffers, and every cell closed with its counter at zero. -/
def Φ₁ (c : Dev nD) : sProp 𝕄 :=
  iprop(semVal (barCell c) 0 ∗ (bigSep Finset.univ fun i : Fin 36 => semVal (sendCell c i) 0) ∗ (bigSep Finset.univ fun i : Fin 36 => semVal (recvCell c i) 0)
    ∗ (∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).wi 0 c
    | ⟨2, _⟩ => (inp m).wo 0 c
    | ⟨3, _⟩ => (inp m).wi 1 c
    | ⟨4, _⟩ => (inp m).wo 1 c
    | ⟨5, _⟩ => (inp m).wi 2 c
    | ⟨6, _⟩ => (inp m).wo 2 c
    | ⟨7, _⟩ => outVal (inp m) c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ
    = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_of (c : Dev nD) (b : Ref sig .tc) (X : b.ty.Contents (Elt F)) :
    (((c : Thread nD τ).loc b) ↦{fullShare} (X : Buf (Elt F) (((c : Dev nD) : Thread nD τ).loc b)) : sProp 𝕄) ⊢ stg c b X := by
  iintro H; iexists _; isplitr; · (ipureintro; rfl)
  iexact H
omit [FloatOps F] in
theorem of_stg {α : Type} (c : Dev nD) (b : Ref sig .tc) (X : α → b.ty.Contents (Elt F)) (Y : b.ty.Contents (Elt F)) (h : ∀ d, X d = Y) :
    iprop(∃ d, stg c b (X d)) ⊢ (((c : Thread nD τ).loc b) ↦{fullShare} (Y : Buf (Elt F) (((c : Dev nD) : Thread nD τ).loc b)) : sProp 𝕄) := by
  iintro ⟨%d, %f, %hf, H⟩
  rw [h d] at hf; subst hf
  iexact H

section Body
variable (c : Dev nD)

/-- The staged inputs are what the launch fetched. -/
theorem before_0 (d) : (dats m ρ 0 c).before (0 : Fin 8) t0_0 d = (inp m).x c := by unfold Dat.before; rw [if_pos (fetch0_0 t0_0)]; rfl
theorem before_1 (d) : (dats m ρ 0 c).before (1 : Fin 8) t0_0 d = (inp m).wi 0 c := by unfold Dat.before; rw [if_pos (fetch0_1 t0_0)]; rfl
theorem before_2 (d) : (dats m ρ 0 c).before (2 : Fin 8) t0_0 d = (inp m).wo 0 c := by unfold Dat.before; rw [if_pos (fetch0_2 t0_0)]; rfl
theorem before_3 (d) : (dats m ρ 0 c).before (3 : Fin 8) t0_0 d = (inp m).wi 1 c := by unfold Dat.before; rw [if_pos (fetch0_3 t0_0)]; rfl
theorem before_4 (d) : (dats m ρ 0 c).before (4 : Fin 8) t0_0 d = (inp m).wo 1 c := by unfold Dat.before; rw [if_pos (fetch0_4 t0_0)]; rfl
theorem before_5 (d) : (dats m ρ 0 c).before (5 : Fin 8) t0_0 d = (inp m).wi 2 c := by unfold Dat.before; rw [if_pos (fetch0_5 t0_0)]; rfl
theorem before_6 (d) : (dats m ρ 0 c).before (6 : Fin 8) t0_0 d = (inp m).wo 2 c := by unfold Dat.before; rw [if_pos (fetch0_6 t0_0)]; rfl

def bodyPre : sProp 𝕄 :=
  iprop(Φ₀ m c ∗ (dats m ρ 0 c).owesAt () t0_0.castSucc
    ∗ (∃ d, stg c cc0_stg0_0 ((dats m ρ 0 c).before (0 : Fin 8) t0_0 d)) ∗ (∃ d, stg c cc0_stg1_0 ((dats m ρ 0 c).before (1 : Fin 8) t0_0 d))
    ∗ (∃ d, stg c cc0_stg2_0 ((dats m ρ 0 c).before (2 : Fin 8) t0_0 d)) ∗ (∃ d, stg c cc0_stg3_0 ((dats m ρ 0 c).before (3 : Fin 8) t0_0 d))
    ∗ (∃ d, stg c cc0_stg4_0 ((dats m ρ 0 c).before (4 : Fin 8) t0_0 d)) ∗ (∃ d, stg c cc0_stg5_0 ((dats m ρ 0 c).before (5 : Fin 8) t0_0 d))
    ∗ (∃ d, stg c cc0_stg6_0 ((dats m ρ 0 c).before (6 : Fin 8) t0_0 d)) ∗ (∃ d, stg c cc0_stg7_0 ((dats m ρ 0 c).before (7 : Fin 8) t0_0 d)))

def bodyPost : sProp 𝕄 :=
  iprop(Φ₁ (F := F) c ∗ (dats m ρ 0 c).owesAt () t0_0.succ ∗ stg c cc0_stg0_0 ((inp m).x c) ∗ stg c cc0_stg1_0 ((inp m).wi 0 c)
    ∗ stg c cc0_stg2_0 ((inp m).wo 0 c) ∗ stg c cc0_stg3_0 ((inp m).wi 1 c) ∗ stg c cc0_stg4_0 ((inp m).wo 1 c) ∗ stg c cc0_stg5_0 ((inp m).wi 2 c)
    ∗ stg c cc0_stg6_0 ((inp m).wo 2 c) ∗ stg c cc0_stg7_0 (outVal (inp m) c))

/-- The program runs from `bodyPre` to `bodyPost`. -/
theorem sound_body : bodyPre m ρ c ⊢ Runs c (program (F := F)) (fun _ => bodyPost m ρ c) := by
  unfold bodyPre Φ₀ start Dat.owesAt Pipeline.owesWithin
  rw [show (dats m ρ 0 c).owed t0_0.castSucc = O₀ c from rfl]
  iintro ⟨⟨⟨⟨%K, #HR⟩, Htok⟩, ⟨%fs, Hs⟩, ⟨%fr, Hr⟩⟩, ⟨%W, -, HO⟩, H0, H1, H2, H3, H4, H5, H6, ⟨%d7, %f7, -, H7⟩⟩
  ihave H0 := (of_stg (F := F) c cc0_stg0_0 _ _ (before_0 m ρ c)) $$ H0
  ihave H1 := (of_stg (F := F) c cc0_stg1_0 _ _ (before_1 m ρ c)) $$ H1
  ihave H2 := (of_stg (F := F) c cc0_stg2_0 _ _ (before_2 m ρ c)) $$ H2
  ihave H3 := (of_stg (F := F) c cc0_stg3_0 _ _ (before_3 m ρ c)) $$ H3
  ihave H4 := (of_stg (F := F) c cc0_stg4_0 _ _ (before_4 m ρ c)) $$ H4
  ihave H5 := (of_stg (F := F) c cc0_stg5_0 _ _ (before_5 m ρ c)) $$ H5
  ihave H6 := (of_stg (F := F) c cc0_stg6_0 _ _ (before_6 m ρ c)) $$ H6
  ihave Hs := (sb_cut (F := F) c fs) $$ Hs
  ihave Hr := (rv_cut (F := F) c fr) $$ Hr
  iapply (wp_program (inp m) K c f7 W) $$ [HO Htok Hs Hr H0 H1 H2 H3 H4 H5 H6 H7]
  · isplitr; · iexact HR
    isplitl [HO]; · iexact HO
    isplitl [Htok]; · iexact Htok
    isplitl [Hs]; · iexact Hs
    isplitl [Hr]; · iexact Hr
    isplitr [H7]
    · unfold stgIn
      isplitl [H0]; · iexact H0
      isplitl [H1]; · iexact H1
      isplitl [H2]; · iexact H2
      isplitl [H3]; · iexact H3
      isplitl [H4]; · iexact H4
      isplitl [H5]; · iexact H5
      iexact H6
    iexact H7
  unfold stgIn
  iintro ⟨Hz, HSt, ⟨H0, H1, H2, H3, H4, H5, H6⟩, H7⟩
  ihave H := (St_end (F := F) c) $$ HSt
  icases H with ⟨⟨%W', HO⟩, Hs, HzS, Hr, HzR⟩
  ihave Hs := (sb_join (F := F) c) $$ Hs
  ihave Hr := (rv_join (F := F) c) $$ Hr
  unfold bodyPost Φ₁ Dat.owesAt Pipeline.owesWithin
  rw [show (dats m ρ 0 c).owed t0_0.succ = 0 from rfl]
  isplitl [Hz HzS HzR Hs Hr]
  · isplitl [Hz]; · iexact Hz
    isplitl [HzS]; · iexact HzS
    isplitl [HzR]; · iexact HzR
    isplitl [Hs] <;> iassumption
  isplitl [HO]
  · iexists W'
    isplitr; · ipureintro; exact fun _ _ => Or.inl trivial
    iexact HO
  isplitl [H0]; · iapply (stg_of (F := F) c cc0_stg0_0); iexact H0
  isplitl [H1]; · iapply (stg_of (F := F) c cc0_stg1_0); iexact H1
  isplitl [H2]; · iapply (stg_of (F := F) c cc0_stg2_0); iexact H2
  isplitl [H3]; · iapply (stg_of (F := F) c cc0_stg3_0); iexact H3
  isplitl [H4]; · iapply (stg_of (F := F) c cc0_stg4_0); iexact H4
  isplitl [H5]; · iapply (stg_of (F := F) c cc0_stg5_0); iexact H5
  isplitl [H6]; · iapply (stg_of (F := F) c cc0_stg6_0); iexact H6
  iapply (stg_of (F := F) c cc0_stg7_0); iexact H7

/-- The body the pipeline calls is the program. -/
theorem body_row : (defs₀ (F := F) Proc.tc 0 (t0_0, cfg0.slots t0_0)) = program :=
  (show (defs₀ (F := F) Proc.tc 0 (t0_0, cfg0.slots t0_0)) = cc0_body (F := F) xM (Memref.isWhole_whole _) wi0M (Memref.isWhole_whole _) wo0M
      (Memref.isWhole_whole _) wi1M (Memref.isWhole_whole _) wo1M (Memref.isWhole_whole _) wi2M (Memref.isWhole_whole _) wo2M (Memref.isWhole_whole _)
      outM (Memref.isWhole_whole _) sbM (Memref.isWhole_whole _) rvM (Memref.isWhole_whole _) cc0_scratch2 cc0_scratch3 from rfl).trans body_eq

/-- The assertion after the body, in the proof data's words. -/
theorem post_eq : bodyPost m ρ c = iprop((dats m ρ 0 c).Φ t0_0.succ ∗ (dats m ρ 0 c).owesAt () t0_0.succ
    ∗ stg c cc0_stg0_0 ((dats m ρ 0 c).after (0 : Fin 8) t0_0) ∗ stg c cc0_stg1_0 ((dats m ρ 0 c).after (1 : Fin 8) t0_0)
    ∗ stg c cc0_stg2_0 ((dats m ρ 0 c).after (2 : Fin 8) t0_0) ∗ stg c cc0_stg3_0 ((dats m ρ 0 c).after (3 : Fin 8) t0_0)
    ∗ stg c cc0_stg4_0 ((dats m ρ 0 c).after (4 : Fin 8) t0_0) ∗ stg c cc0_stg5_0 ((dats m ρ 0 c).after (5 : Fin 8) t0_0)
    ∗ stg c cc0_stg6_0 ((dats m ρ 0 c).after (6 : Fin 8) t0_0) ∗ stg c cc0_stg7_0 ((dats m ρ 0 c).after (7 : Fin 8) t0_0)) := rfl

/-- The body's obligation on device `c`. -/
theorem body_obligation : BodyObligation (dats (F := F) m ρ 0 c) (defs₀ (F := F)) 𝒱₀ () Set.univ := fun t => by
  rw [fin_N0 t]
  rw [bigSep_W, bigSep_W]
  simp only [owns_whole_eq]
  refine BIBase.Entails.trans (show _ ⊢ bodyPre m ρ c from BIBase.Entails.rfl) ?_
  rw [body_row]
  have h := sound_body m ρ c
  rw [post_eq] at h
  unfold Runs at h
  generalize program (F := F) = p at h ⊢
  exact h

end Body

/-! ## The deal -/

theorem ownSemFacts : Pipeline.OwnSemFacts cfg0.spec osem where
  isScoped := by decide +kernel
  inj := fun a b h => Sum.inr.inj (csem_injective (show csem (.inr a) = csem (.inr b) from h))
  disj := by decide +kernel

theorem share_eq (c : Dev nD) (w : Fin cfg0.W) : (dats m ρ 0 c).share w = fullShare := by unfold Dat.share; split <;> rfl

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

theorem bar_eq_iff {a b : Dev nD} : barCell a = barCell b ↔ a = b :=
  ⟨fun h => congrArg (fun g : GSem nD τ sig => g.1.1) h, fun h => h ▸ rfl⟩
theorem recv_eq_iff {a b : Dev nD} {i j : Fin 36} : recvCell a i = recvCell b j ↔ a = b ∧ i = j := by
  constructor
  · intro h
    have := kcell_injective (show kcell (a, .inr (.inr i)) = kcell (b, .inr (.inr j)) from h)
    exact ⟨congrArg Prod.fst this, Sum.inr.inj (Sum.inr.inj (congrArg Prod.snd this))⟩
  · rintro ⟨rfl, rfl⟩; rfl
theorem recv_ne_bar {a b : Dev nD} {i : Fin 36} : recvCell a i ≠ barCell b := fun h => by
  have h2 : SemLoc.dma (recvQ i.1 i.2) = SemLoc.reg barS := congrArg Prod.snd h
  cases h2

/-- All cells, and each device's own cells' duties: its barrier's three, and one per send and receive cell. -/
def allCells : Finset (GSem nD τ sig) := Finset.univ.map ⟨kcell, kcell_injective⟩
def tokOf (ct : Dev nD × (Fin 3 ⊕ (Fin 36 ⊕ Fin 36))) : GSem nD τ sig × ℕ × Fin 3 := match ct.2 with
  | .inl d => (barCell ct.1, 0, d)
  | .inr k => (kcell (ct.1, .inr k), 0, 0)
theorem tokOf_injective : Function.Injective tokOf := by
  rintro ⟨c, k⟩ ⟨c', k'⟩ h
  have key : ∀ {a b : CI}, kcell (c, a) = kcell (c', b) → c = c' ∧ a = b := fun h => by
    have := kcell_injective h; exact ⟨congrArg Prod.fst this, congrArg Prod.snd this⟩
  rcases k with d | k <;> rcases k' with d' | k'
  · obtain ⟨rfl, -⟩ := key (a := .inl ()) (b := .inl ()) (congrArg Prod.fst h)
    have : d = d' := congrArg (fun x : GSem nD τ sig × ℕ × Fin 3 => x.2.2) h
    rw [this]
  · have := (key (a := .inl ()) (b := .inr k') (congrArg Prod.fst h)).2
    cases this
  · have := (key (a := .inr k) (b := .inl ()) (congrArg Prod.fst h)).2
    cases this
  · obtain ⟨rfl, h2⟩ := key (a := .inr k) (b := .inr k') (congrArg Prod.fst h)
    rw [Sum.inr.inj h2]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

omit [FloatOps F] in
/-- A device's cells one kind after the other. -/
theorem bigSep_CI (Φ : CI → sProp 𝕄) : bigSep Finset.univ Φ
    = iprop(Φ (.inl ()) ∗ (bigSep Finset.univ fun i : Fin 36 => Φ (.inr (.inl i))) ∗ bigSep Finset.univ fun i : Fin 36 => Φ (.inr (.inr i))) := by
  rw [bigSep_univ_sum, bigSep_univ_sum, Finset.univ_unique, bigSep_singleton]; rfl

/-- The duty tokens of device `c`'s own cells. -/
def ownToks (c : Dev nD) : sProp 𝕄 :=
  iprop((bigSep Finset.univ fun d : Fin 3 => dutyTok ER (barCell c) 0 d) ∗ (bigSep Finset.univ fun i : Fin 36 => dutyTok ER (sendCell c i) 0 0)
    ∗ bigSep Finset.univ fun i : Fin 36 => dutyTok ER (recvCell c i) 0 0)
/-- The duty tokens device `c` discharges. -/
def payToks (c : Dev nD) : sProp 𝕄 :=
  iprop((bigSep Finset.univ fun d : Fin 3 => dutyTok ER (barCell (peer d c)) 0 d) ∗ (bigSep Finset.univ fun i : Fin 36 => dutyTok ER (sendCell c i) 0 0)
    ∗ bigSep Finset.univ fun i : Fin 36 => dutyTok ER (recvCell (peer (stp i.1) c) i) 0 0)

/-- What the launch deals device `c`. -/
def G (c : Dev nD) : sProp 𝕄 :=
  iprop((bigSep Finset.univ fun k : CI => roundState ER (sched (inp m)) (kcell (c, k)) 0)
    ∗ (bigSep Finset.univ fun k : CI => iprop(atPos ER (kcell (c, k)) 0 ∅ 0 ∗ reached ER (kcell (c, k)) 0)) ∗ ownToks c)

/-- The invariants and the marks, the levels aside. -/
def marks (K : Dev nD × CI → ℕ) : sProp 𝕄 :=
  iprop((bigSep Finset.univ fun ck : Dev nD × CI => cellInv ER (sched (inp m)) (K ck) (kcell ck))
    ∗ bigSep Finset.univ fun ck : Dev nD × CI => reached ER (kcell ck) 0)
instance marks_persistent (K : Dev nD × CI → ℕ) : BI.Persistent (marks m K) := by unfold marks; infer_instance

/-- What the common step makes of all the deals, on device `c`. -/
def G' (c : Dev nD) : sProp 𝕄 := iprop((∃ K, marks m K) ∗ (bigSep Finset.univ fun k : CI => atPos ER (kcell (c, k)) 0 ∅ 0) ∗ payToks c)

theorem deal_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_sum, bigSep_univ_sum]; rfl
  iintro HX
  imod (Rounds.fund ER (sched (inp m)) allCells allToks) $$ HX with ⟨Hst, Hr, Hat, Htok⟩
  imodintro
  ihave Hst' := (Entails.of_eq (hX fun g => roundState ER (sched (inp m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun i : Fin 36 => semVal (sendCell c i) 0) ∗ bigSep Finset.univ fun i : Fin 36 => semVal (recvCell c i) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells' invariants are set up. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched (inp m)) κ (kcell (c, k))))
          ∗ (bigSep Finset.univ fun k => iprop(atPos ER (kcell (c, k)) 0 ∅ 0 ∗ reached ER (kcell (c, k)) 0)) ∗ ownToks c) := by
  unfold G
  rw [ownSems0_eq, unscopedSems0_eq]
  iintro ⟨⟨HS, HV⟩, HB, Hst, Hat, Htok⟩
  imod (show iprop((bigSep Finset.univ fun k : CI => semVal (kcell (c, k)) 0) ∗ bigSep Finset.univ fun k : CI => roundState ER (sched (inp m)) (kcell (c, k)) 0)
      ⊢ (|={Set.univ}=> bigSep Finset.univ fun k => iprop(∃ κ : ℕ, cellInv ER (sched (inp m)) κ (kcell (c, k))) : sProp 𝕄) from by
        rw [← bigSep_sep']
        exact (bigSep_mono fun k _ => (Rounds.body_intro ER (sched (inp m)) (kcell (c, k))).trans inv_alloc).trans (bigSep_fupd _ _)) $$ [HS HV HB Hst] with Hinv
  · isplitr [Hst]
    · rw [bigSep_CI]
      isplitl [HB]; · iexact HB
      isplitl [HS] <;> iassumption
    iexact Hst
  imodintro
  isplitl [Hinv]; · iexact Hinv
  isplitl [Hat]; · iexact Hat
  iexact Htok

/-- Partners swapped, as a re-indexing of the devices. -/
def swap (s : Fin 3) : Dev nD ≃ Dev nD := ⟨peer s, peer s, peer_peer s, peer_peer s⟩

omit [FloatOps F] in
/-- What is dealt by owner is dealt by partner. -/
theorem by_partner {T : Type} [Fintype T] (s : T → Fin 3) (Φ : Dev nD → T → sProp 𝕄) :
    (bigSep Finset.univ fun c : Dev nD => bigSep Finset.univ fun t : T => Φ c t) = bigSep Finset.univ fun c : Dev nD => bigSep Finset.univ fun t : T => Φ (peer (s t) c) t := by
  rw [BI.bigSep_univ_comm, BI.bigSep_univ_comm (fun (c : Dev nD) (t : T) => Φ (peer (s t) c) t)]
  exact bigSep_congr fun t _ => bigSep_univ_equiv (swap (s t)) fun c => Φ c t

omit [FloatOps F] in
/-- The tokens go to the devices that discharge them. -/
theorem toks_dealt : (bigSep Finset.univ fun c : Dev nD => (ownToks c : sProp 𝕄)) = bigSep Finset.univ fun c : Dev nD => payToks c := by
  unfold ownToks payToks
  simp only [bigSep_sep']
  rw [by_partner (F := F) (fun d : Fin 3 => d) (fun c d => dutyTok ER (barCell c) 0 d),
    by_partner (F := F) (fun i : Fin 36 => stp i.1) (fun c i => dutyTok ER (recvCell c i) 0 0)]

theorem regroup :
    (bigSep Finset.univ fun c : Dev nD => iprop((bigSep Finset.univ fun k => iprop(∃ κ : ℕ, cellInv ER (sched (inp m)) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m) := by
  simp only [bigSep_sep']
  rw [toks_dealt, ← bigSep_univ_prod (fun ck : Dev nD × CI => iprop(∃ κ : ℕ, cellInv ER (sched (inp m)) κ (kcell ck))),
    ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched (inp m)) κ (kcell ck) : sProp 𝕄))) $$ HI
  icases HK with ⟨%K, #HI⟩
  iapply (bigSep_with_persistent (R := marks m K)
    (Φ := fun c : Dev nD => iprop((bigSep Finset.univ fun k : CI => (atPos ER (kcell (c, k)) 0 ∅ 0 : sProp 𝕄)) ∗ payToks c)) fun c _ => show _ ⊢ G' m c from by
      unfold G'
      iintro ⟨#HM, H⟩
      isplitr; · iexists K; iexact HM
      iexact H)
  isplitr
  · unfold marks; isplitl; · iexact HI
    iexact HR
  rw [bigSep_sep']
  isplitl [Hat]; · iexact Hat
  iexact Htok

/-- The common step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch's credit -/

/-- What device `d` owes device `c`'s receive cell `i`. -/
theorem owedFrom_recv (d c : Dev nD) (i : Fin 36) : owedFrom d 0 (recvCell c i) () = if d = peer (stp i.1) c then N else 0 := by
  unfold owedFrom
  rw [Finset.sum_apply, Finsupp.finset_sum_apply, Finset.sum_eq_single i]
  · rw [tallyAt_apply]
    refine if_congr ?_ rfl rfl
    constructor
    · rintro ⟨h, -⟩; rw [(recv_eq_iff.mp h).1, peer_peer]
    · rintro rfl; rw [peer_peer]; exact ⟨rfl, rfl⟩
  · intro j _ hj
    rw [tallyAt_apply, if_neg fun h => hj (recv_eq_iff.mp h.1).2.symm]
  · intro h; exact absurd (by simp) h
/-- and what its barrier cell. -/
theorem owedFrom_bar (d c : Dev nD) : owedFrom d 0 (barCell c) () = 0 := by
  unfold owedFrom
  rw [Finset.sum_apply, Finsupp.finset_sum_apply]
  exact Finset.sum_eq_zero fun i _ => by rw [tallyAt_apply, if_neg fun h => recv_ne_bar h.1.symm]

theorem tally_bar (s : Fin 3) (d c : Dev nD) : (tallyAt (barCell (peer s d)) () 1 : CellTallies nD τ sig Unit) (barCell c) () = if d = peer s c then 1 else 0 := by
  rw [tallyAt_apply]
  refine if_congr ?_ rfl rfl
  constructor
  · rintro ⟨h, -⟩; rw [bar_eq_iff.mp h, peer_peer]
  · rintro rfl; rw [peer_peer]; exact ⟨rfl, rfl⟩

theorem owed_bar (d c : Dev nD) : O₀ d (barCell c) () = (if d = peer 2 c then 1 else 0) + (if d = peer 1 c then 1 else 0) + (if d = peer 0 c then 1 else 0) := by
  unfold O₀ O₁ O₂
  rw [Pi.add_apply, Finsupp.add_apply, Pi.add_apply, Finsupp.add_apply, Pi.add_apply, Finsupp.add_apply, owedFrom_bar, tally_bar, tally_bar, tally_bar, Nat.zero_add]

theorem owed_recv (d c : Dev nD) (i : Fin 36) : O₀ d (recvCell c i) () = if d = peer (stp i.1) c then N else 0 := by
  have h (s : Fin 3) : (tallyAt (barCell (peer s d)) () 1 : CellTallies nD τ sig Unit) (recvCell c i) () = 0 := by
    rw [tallyAt_apply, if_neg fun h => recv_ne_bar h.1]
  unfold O₀ O₁ O₂
  rw [Pi.add_apply, Finsupp.add_apply, Pi.add_apply, Finsupp.add_apply, Pi.add_apply, Finsupp.add_apply, owedFrom_recv, h, h, h]; rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 2 c) fun _ => 1, Finset.sum_ite_eq' Finset.univ (peer 1 c) fun _ => 1, Finset.sum_ite_eq' Finset.univ (peer 0 c) fun _ => 1,
    if_pos (Finset.mem_univ _), if_pos (Finset.mem_univ _), if_pos (Finset.mem_univ _)]

theorem launch_recv (c : Dev nD) (i : Fin 36) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (peer (stp i.1) c) fun _ => N, if_pos (Finset.mem_univ _)]

def recvEmb : Fin 36 ↪ SemLoc sig := ⟨fun i => .dma (recvQ i.1 i.2), fun i j h =>
  Sum.inr.inj (Sum.inr.inj (csem_injective (show csem (.inr (.inr i)) = csem (.inr (.inr j)) from h)))⟩

omit [FloatOps F] in
theorem creds (c : Dev nD) :
    (Pipeline.launchCred O₀ c : sProp 𝕄) ⊢ iprop(cred (tallyAt (barCell c) () 3) ∗ bigSep Finset.univ fun i : Fin 36 => cred (tallyAt (recvCell c i) () N)) := by
  unfold Pipeline.launchCred
  rw [bigSep_univ_at _ (SemLoc.reg barS), launch_bar]
  refine sep_mono_right ?_
  refine BIBase.Entails.trans (bigSep_subset (t := Finset.univ.map recvEmb) fun sm hsm => ?_) (Entails.of_eq ?_)
  · obtain ⟨i, -, rfl⟩ := Finset.mem_map.mp hsm
    exact Finset.mem_erase.mpr ⟨(fun h => by cases h), Finset.mem_univ _⟩
  · rw [bigSep_map]
    exact bigSep_congr fun i _ => congrArg _ (launch_recv c i)

/-! ### Entering and leaving the region -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start recs marks barToks outToks inToks payToks
  rw [bigSep_CI]
  iintro ⟨-, #Hlev, Hcr, -, ⟨%K, #HI, #HR⟩, ⟨HaB, HaS, HaV⟩, HtB, HtS, HtV⟩
  ihave Hc := (creds (F := F) c) $$ Hcr
  icases Hc with ⟨H1, HN⟩
  imodintro
  isplitl
  · isplitr
    · iexists K
      isplitr; · iexact HI
      isplitr; · iexact HR
      iexact Hlev
    isplitl [HaB H1 HtB]
    · isplitl [HaB]; · iexact HaB
      isplitl [H1] <;> iassumption
    isplitl [HtS HtV HaS]
    · isplitl [HtS]; · iexact HtS
      isplitl [HtV] <;> iassumption
    isplitl [HN] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁
  iintro ⟨HB, HS, HV, H⟩
  isplitl [HB]; · iexact HB
  isplitl [HS HV]
  · isplitl [HS] <;> iassumption
  iexact H

/-- The staging semaphores lie lowest. -/
theorem stage_level (c : Dev nD) : ∀ (w : Fin cfg0.W) (s : Fin (cfg0.win w).nbuf), lv ((c : Thread nD τ), SemLoc.dma ((cfg0.win w).sem s)) () = 0 := by
  have h : ∀ (w : Fin cfg0.W) (s : Fin (cfg0.win w).nbuf), decode (SemLoc.dma ((cfg0.win w).sem s)) = none := by decide +kernel
  intro w s; unfold lv; rw [h w s]; rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_O₀ (F := F) c _ (stage_level c w s)
    · show (levAts L lv : sProp 𝕄) ⊢ MayWait (c : Thread nD τ) _ () 0
      rw [MayWait_zero]; iintro -; iempintro

/-! ### The run -/

def finalA (c : Dev nD) (w : Fin cfg0.W) : Buf (Elt F) ((cfg0.win w).arr.view.loc (c : Thread nD τ)) := (dats m ρ 0 c).arrAt w cfg0.N

set_option maxRecDepth 100000 in
/-- From any memory with every counter at zero, every fair execution of the mesh ends, with every array at its final
    contents and every counter at zero again. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (deal_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The run read at the program's arguments, unchanged, and its result. -/
theorem run_read : θ_run defs (onTc (τ := τ) (main (F := F))) (s₀ m ρ) (fun r =>
    (∀ c : Dev nD, r.2.mem ((c.tc : Thread nD τ).loc main_v1) = finalA m ρ c (7 : Fin 8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨h.1 c 7,
    (h.1 c 0).trans ((dats (F := F) m ρ 0 c).arrAt_in (0 : Fin 8) rfl _),
    (h.1 c 1).trans ((dats (F := F) m ρ 0 c).arrAt_in (1 : Fin 8) rfl _),
    (h.1 c 2).trans ((dats (F := F) m ρ 0 c).arrAt_in (2 : Fin 8) rfl _),
    (h.1 c 3).trans ((dats (F := F) m ρ 0 c).arrAt_in (3 : Fin 8) rfl _),
    (h.1 c 4).trans ((dats (F := F) m ρ 0 c).arrAt_in (4 : Fin 8) rfl _),
    (h.1 c 5).trans ((dats (F := F) m ρ 0 c).arrAt_in (5 : Fin 8) rfl _),
    (h.1 c 6).trans ((dats (F := F) m ρ 0 c).arrAt_in (6 : Fin 8) rfl _)⟩, h.2⟩) (run_main m ρ)

/-- The run read at the arguments alone. -/
theorem run_frame : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => (h.1 c).2, h.2⟩) (run_read m ρ)

end Cert.KernelIdeal.Mlp

end
-- ==== Proof.Frames.lean ====
/-
# The frames

The program as printed and its idealization are one text read at two instances, and the run of Proof/Launch.lean is proved
at every instance: so the frame of either is that run.
-/
module

public import proofs.«01_k».proof.Defs
public import proofs.«01_k».proof.Proof.Launch
public import proofs.«01_k».proof.Proof.Gen.Kernel

@[expose] public section

noncomputable section

namespace Cert.Mlp

open Idealize.ShloMosaic Idealize.SL.Sem

variable {F : FTy → Type} [FloatOps F]

/-- The two programs' kernel bodies are one. -/
theorem body_same : @Cert.Kernel.cc0_body F _ _ = @Cert.KernelIdeal.cc0_body F _ _ := rfl
/-- So are their tables of kernels, -/
theorem defs₀_same : @Cert.Kernel.defs₀ F _ _ = @Cert.KernelIdeal.defs₀ F _ _ := by
  refine congrArg Defs.onTc (funext fun l => ?_)
  obtain ⟨_ | n, hl⟩ := l
  · funext ⟨t, s⟩
    rfl
  · exact absurd hl (Nat.not_lt.2 (Nat.le_add_left _ _))
/-- with the pipelines' entries, -/
theorem defs_same : @Cert.Kernel.defs F _ _ = @Cert.KernelIdeal.defs F _ _ :=
  congrArg (Pipeline.defs Cert.KernelIdeal.pcfgs) defs₀_same
/-- and their main programs. -/
theorem main_same : @Cert.Kernel.main F _ = @Cert.KernelIdeal.main F _ := rfl

/-- The idealization's frame. -/
theorem frame_ideal : Cert.quiescent_KernelIdeal := fun m g _ => Cert.KernelIdeal.Mlp.run_frame (F := Ideal) m g

/-- The program's frame, at the machine's own floats. -/
theorem frame_bits : Cert.quiescent_Kernel := fun m g _ => by
  have h := Cert.KernelIdeal.Mlp.run_frame (F := Bits) m g
  rw [← defs_same, ← main_same] at h
  exact h

end Cert.Mlp

end
-- ==== Proof.Algebra.lean ====
/-
# What the devices compute, over the extended reals

Each piece of a device's arithmetic is read at an index as a sum of products. Three exchanges of running sums add up the
eight devices' products, and the sums over the devices' blocks are the sums over the whole arrays.
-/
module

public import proofs.«01_k».proof.Proof.Body
public import Idealize.ShloMosaic.Lib.Pointwise
public import Idealize.ShloMosaic.Lib.MatmulPlain
public import Idealize.ShloMosaic.Lib.StackMember
public import Idealize.ShloMosaic.Lib.Pipeline.Value

@[expose] public section

noncomputable section

namespace Cert.KernelIdeal.Mlp

open Cert.KernelIdeal Cert.KernelIdeal.Gen
open Idealize.ShloMosaic Idealize.ShloMosaic.TcCoe

/-! ## Whole matrices -/

/-- The product of two matrices, an entry at a time. -/
def prod {a k b : ℕ} (A : (⟨2, ![a, k]⟩ : Shape).Idx → EReal) (B : (⟨2, ![k, b]⟩ : Shape).Idx → EReal) : (⟨2, ![a, b]⟩ : Shape).Idx → EReal :=
  fun i => ∑ q : Fin k, A (ix2 (n0 := a) (n1 := k) (i 0) q) * B (ix2 (n0 := k) (n1 := b) q (i 1))
/-- The entries' positive parts. -/
def relu {s : Shape} (A : s.Idx → EReal) : s.Idx → EReal := fun i => max (A i) 0

/-- The machine's product into a zero accumulator is that product. -/
theorem matmul_prod {a k b : ℕ} {φ ψ : FTy} (A : FVec Ideal ⟨2, ![a, k]⟩ φ) (B : FVec Ideal ⟨2, ![k, b]⟩ ψ) :
    matmul (F := Ideal) (DotDims.plain a k b) none A B (constant ⟨2, ![a, b]⟩ .f32 0x00000000#32) = prod A B := by
  funext i
  obtain ⟨r, c, rfl⟩ : ∃ (r : Fin a) (c : Fin b), i = ix2 r c := ⟨i 0, i 1, eq_ix2 i⟩
  refine (Ideal.matmul_plain_apply none A B _ r c).trans ?_
  refine (congrArg (· + _) Ideal.ofBits_zero_f32).trans ?_
  exact zero_add _
/-- So is the host's. -/
theorem dot_prod {a k b : ℕ} {φ ψ : FTy} (A : FVec Ideal ⟨2, ![a, k]⟩ φ) (B : FVec Ideal ⟨2, ![k, b]⟩ ψ) :
    Host.dotGeneral (F := Ideal) (DotDims.plain a k b) none A B = prod A B := by
  funext i
  obtain ⟨r, c, rfl⟩ : ∃ (r : Fin a) (c : Fin b), i = ix2 r c := ⟨i 0, i 1, eq_ix2 i⟩
  exact StackMember.dotGeneral_plain_apply none A B r c

/-! ## A device's arithmetic -/

/-- The first hidden block. -/
theorem first_eq (x : Vec Ideal S64x1024 .f32) (w : Vec Ideal S1024x2048 .f32) :
    k0_pay1 (F := Ideal) x w = relu (prod (a := 64) (k := 1024) (b := 2048) x w) := by
  have hx : shapeCast S64x1024 x shapeCasts_S64x1024_S64x1024 = x := shapeCast_self _ _
  have hw : shapeCast S1024x2048 w shapeCasts_S1024x2048_S1024x2048 = w := shapeCast_self _ _
  unfold k0_pay1
  rw [hx, hw]
  funext i
  exact congrArg₂ max (congrFun (matmul_prod (φ := .bf16) (ψ := .bf16) x w) i) Ideal.ofBits_zero_f32

/-- Columns `o`, …, `o + 255` of a matrix. -/
def cols (o : ℕ) (h : o + 256 ≤ 1024) (w : S2048x1024.Idx → EReal) : S2048x256.Idx → EReal :=
  fun i => w (ix2 (n0 := 2048) (n1 := 1024) (i 0) ⟨o + (i 1).val, by have : (i 1).val < 256 := (i 1).isLt; omega⟩)
/-- Rows `o`, …, `o + 255` of a matrix. -/
def rows (o : ℕ) (h : o + 256 ≤ 1024) (w : S1024x2048.Idx → EReal) : S256x2048.Idx → EReal :=
  fun i => w (ix2 (n0 := 1024) (n1 := 2048) ⟨o + (i 0).val, by have : (i 0).val < 256 := (i 0).isLt; omega⟩ (i 1))

/-- A slice of columns is those columns. -/
theorem slice_cols (o : ℕ) (h : o + 256 ≤ 1024) (w : S2048x1024.Idx → EReal) (hs : S2048x1024.Slices ![0, o] S2048x256) :
    extractStridedSlice S2048x256 ![0, o] w hs = cols o h w := by
  funext i
  refine extractStridedSlice_apply _ w hs i _ fun a => ?_
  match a with
  | ⟨0, _⟩ => exact (Nat.zero_add _).symm
  | ⟨1, _⟩ => rfl
/-- A slice of rows is those rows. -/
theorem slice_rows (o : ℕ) (h : o + 256 ≤ 1024) (w : S1024x2048.Idx → EReal) (hs : S1024x2048.Slices ![o, 0] S256x2048) :
    extractStridedSlice S256x2048 ![o, 0] w hs = rows o h w := by
  funext i
  refine extractStridedSlice_apply _ w hs i _ fun a => ?_
  match a with
  | ⟨0, _⟩ => rfl
  | ⟨1, _⟩ => exact (Nat.zero_add _).symm

/-- A chunk of a device's product with its second weights: the hidden block times that chunk's columns. -/
theorem chunk_eq (h : FVec Ideal S64x2048 .bf16) (w : Vec Ideal S2048x1024 .f32) (j : ℕ) (hj : 256 * j + 256 ≤ 1024) :
    chunks (F := Ideal) h w j = prod (a := 64) (k := 2048) (b := 256) h (cols (256 * j) hj w) := by
  have hw : shapeCast S2048x1024 w shapeCasts_S2048x1024_S2048x1024 = w := shapeCast_self _ _
  have key (o : ℕ) (ho : o + 256 ≤ 1024) (hs : S2048x1024.Slices ![0, o] S2048x256) :
      matmul (F := Ideal) dot_S64x2048_S2048x256_S64x256_1_0_0_1_n_n none h (extractStridedSlice S2048x256 ![0, o] (k0_pay2 (F := Ideal) w) hs) (constant S64x256 .f32 0x00000000#32)
        = prod (a := 64) (k := 2048) (b := 256) h (cols o ho w) := by
    unfold k0_pay2
    rw [hw]
    refine (matmul_prod (φ := .bf16) (ψ := .bf16) h _).trans ?_
    exact congrArg (prod (a := 64) (k := 2048) (b := 256) h) (slice_cols o ho w hs)
  rcases j with _ | _ | _ | _ | j
  · exact key 0 _ slices_S2048x1024_o0_0_S2048x256
  · exact key 256 _ slices_S2048x1024_o0_256_S2048x256
  · exact key 512 _ slices_S2048x1024_o0_512_S2048x256
  · exact key 768 _ slices_S2048x1024_o0_768_S2048x256
  · omega

/-- A received chunk, added: what the sender held plus one's own. -/
theorem add_eq (p q : FVec Ideal S64x256 .f32) : k0_pay12 (F := Ideal) p (k0_pay4 (F := Ideal) q) = fun i => (p i + q i : EReal) := by
  have hc : shapeCast S64x256 (shapeCast S1x64x256 (fun i => (q i : EReal)) shapeCasts_S64x256_S1x64x256) shapeCasts_S1x64x256_S64x256 = q := by
    rw [shapeCast_shapeCast]
  funext i
  exact congrArg (fun z : EReal => (p i : EReal) + z) (congrFun hc i)

/-- The eight devices in the order in which device `c`'s chunk gathers their terms. -/
def trail (c : Dev nD) : Fin 8 → Dev nD :=
  ![c, peer 0 c, peer 1 c, peer 0 (peer 1 c), peer 2 c, peer 0 (peer 2 c), peer 1 (peer 2 c), peer 0 (peer 1 (peer 2 c))]
/-- Each of them comes once. -/
theorem trail_bijective : ∀ c : Dev nD, Function.Bijective (trail c) := by decide +kernel

/-- After three exchanges a device's chunk is the sum of the eight devices' chunks. -/
theorem part_sum (h : Dev nD → FVec Ideal S64x2048 .bf16) (w : Dev nD → Vec Ideal S2048x1024 .f32) (c : Dev nD) (j : ℕ) (i : S64x256.Idx) :
    (part (F := Ideal) h w 3 c j i : EReal) = ∑ d : Dev nD, (chunks (F := Ideal) (h d) (w d) j i : EReal) := by
  have s (n : ℕ) (e : Dev nD) : (part (F := Ideal) h w (n + 1) e j i : EReal) = (part (F := Ideal) h w n e j i : EReal) + (part (F := Ideal) h w n (peer (stp (4 * n)) e) j i : EReal) :=
    congrFun (add_eq _ _) i
  have s0 (e : Dev nD) : (part (F := Ideal) h w 1 e j i : EReal) = (chunks (F := Ideal) (h e) (w e) j i : EReal) + (chunks (F := Ideal) (h (peer 0 e)) (w (peer 0 e)) j i : EReal) := s 0 e
  have s1 (e : Dev nD) : (part (F := Ideal) h w 2 e j i : EReal) = (part (F := Ideal) h w 1 e j i : EReal) + (part (F := Ideal) h w 1 (peer 1 e) j i : EReal) := s 1 e
  have s2 (e : Dev nD) : (part (F := Ideal) h w 3 e j i : EReal) = (part (F := Ideal) h w 2 e j i : EReal) + (part (F := Ideal) h w 2 (peer 2 e) j i : EReal) := s 2 e
  rw [← (trail_bijective c).sum_comp fun d => (chunks (F := Ideal) (h d) (w d) j i : EReal), Fin.sum_univ_eight, s2, s1, s1, s0, s0, s0, s0]
  simp only [← add_assoc]
  rfl

/-- The next hidden block: the positive part of the four chunks, side by side, times the layer's first weights. -/
theorem next_eq (w : Vec Ideal S1024x2048 .f32) (v : ℕ → FVec Ideal S64x256 .f32) :
    nextH (F := Ideal) w (v 0) (v 1) (v 2) (v 3) = relu (prod (a := 64) (k := 1024) (b := 2048) (beside v) w) := by
  have hw : shapeCast S1024x2048 w shapeCasts_S1024x2048_S1024x2048 = w := shapeCast_self _ _
  have key (j : ℕ) (o : ℕ) (ho : o + 256 ≤ 1024) (hs : S1024x2048.Slices ![o, 0] S256x2048) :
      matmul (F := Ideal) dot_S64x256_S256x2048_S64x2048_1_0_0_1_n_n none (truncf .bf16 (v j) bitsLt_bf16_f32) (extractStridedSlice S256x2048 ![o, 0] (k0_pay11 (F := Ideal) w) hs)
          (constant S64x2048 .f32 0x00000000#32)
        = prod (a := 64) (k := 256) (b := 2048) (v j) (rows o ho w) := by
    unfold k0_pay11
    rw [hw]
    refine (matmul_prod (φ := .bf16) (ψ := .bf16) (v j) _).trans ?_
    exact congrArg (prod (a := 64) (k := 256) (b := 2048) (v j)) (slice_rows o ho w hs)
  unfold nextH
  funext i
  refine congrArg₂ max ?_ Ideal.ofBits_zero_f32
  show (((matmul (F := Ideal) _ _ _ _ _ i + matmul (F := Ideal) _ _ _ _ _ i) + matmul (F := Ideal) _ _ _ _ _ i) + matmul (F := Ideal) _ _ _ _ _ i : EReal) = _
  rw [key 0 0 (by decide), key 1 256 (by decide), key 2 512 (by decide), key 3 768 (by decide)]
  unfold prod
  rw [Fin.sum_univ_tiles 4 256 rfl, Fin.sum_univ_four]
  have hb (j : ℕ) (hj : j < 4) (r : Fin 64) (n : Fin 256) (hn : j * 256 + n.val < 1024) :
      beside (F := Ideal) v (ix2 (n0 := 64) (n1 := 1024) r ⟨j * 256 + n.val, hn⟩) = v j (ix2 r n) := by
    show v ((j * 256 + n.val) / 256) (ix2 (n0 := 64) (n1 := 256) r ⟨(j * 256 + n.val) % 256, _⟩) = _
    have e1 : (j * 256 + n.val) / 256 = j := by omega
    have e2 : (⟨(j * 256 + n.val) % 256, Nat.mod_lt _ (by decide)⟩ : Fin 256) = n := Fin.ext (by show (j * 256 + n.val) % 256 = n.val; omega)
    rw [e1, e2]
  have term (j : ℕ) (hj : j < 4) (o : ℕ) (ho : o + 256 ≤ 1024) (e : o = j * 256) :
      (∑ n : Fin 256, (v j (ix2 (n0 := 64) (n1 := 256) (i 0) n) : EReal) * rows o ho w (ix2 (n0 := 256) (n1 := 2048) n (i 1)))
        = ∑ n : Fin 256, beside (F := Ideal) v (ix2 (n0 := 64) (n1 := 1024) (i 0) ⟨j * 256 + n.val, by have := n.isLt; omega⟩)
            * w (ix2 (n0 := 1024) (n1 := 2048) ⟨j * 256 + n.val, by have := n.isLt; omega⟩ (i 1)) := by
    subst e
    refine Finset.sum_congr rfl fun n _ => ?_
    exact congrArg (· * rows (j * 256) ho w (ix2 (n0 := 256) (n1 := 2048) n (i 1))) (hb j hj (i 0) n (by have := n.isLt; omega)).symm
  rw [term 0 (by decide) 0 _ rfl, term 1 (by decide) 256 _ rfl, term 2 (by decide) 512 _ rfl, term 3 (by decide) 768 _ rfl]
  rfl

/-! ## Blocks of whole matrices -/

/-- Each device holds its block of columns. -/
def ColBlocks {a : ℕ} (h : Dev nD → (⟨2, ![a, 2048]⟩ : Shape).Idx → EReal) (H : (⟨2, ![a, 16384]⟩ : Shape).Idx → EReal) : Prop :=
  ∀ (c : Dev nD) (r : Fin a) (t : Fin 2048),
    h c (ix2 r t) = H (ix2 (n0 := a) (n1 := 16384) r ⟨c.val * 2048 + t.val, by have : c.val < 8 := c.isLt; have := t.isLt; omega⟩)
/-- Each device holds its block of rows. -/
def RowBlocks {b : ℕ} (w : Dev nD → (⟨2, ![2048, b]⟩ : Shape).Idx → EReal) (W : (⟨2, ![16384, b]⟩ : Shape).Idx → EReal) : Prop :=
  ∀ (c : Dev nD) (t : Fin 2048) (n : Fin b),
    w c (ix2 t n) = W (ix2 (n0 := 16384) (n1 := b) ⟨c.val * 2048 + t.val, by have : c.val < 8 := c.isLt; have := t.isLt; omega⟩ n)

/-- A matrix times blocks of columns, positive part: blocks of columns of the whole's. -/
theorem ColBlocks.hidden {a k : ℕ} (A : (⟨2, ![a, k]⟩ : Shape).Idx → EReal) {w : Dev nD → (⟨2, ![k, 2048]⟩ : Shape).Idx → EReal}
    {W : (⟨2, ![k, 16384]⟩ : Shape).Idx → EReal} (hw : ColBlocks w W) : ColBlocks (fun c => relu (prod A (w c))) (relu (prod A W)) :=
  fun c r t => congrArg (max · (0 : EReal)) (Finset.sum_congr rfl fun q _ => congrArg (A (ix2 r q) * ·) (hw c q t))

/-- The devices' sum of blocks of columns times blocks of rows is the whole product, on every device. -/
theorem beside_eq {h : Dev nD → FVec Ideal S64x2048 .bf16} {w : Dev nD → Vec Ideal S2048x1024 .f32} {H : (⟨2, ![64, 16384]⟩ : Shape).Idx → EReal}
    {W : (⟨2, ![16384, 1024]⟩ : Shape).Idx → EReal} (hh : ColBlocks (a := 64) h H) (hw : RowBlocks (b := 1024) w W) (c : Dev nD) :
    beside (F := Ideal) (part (F := Ideal) h w 3 c) = prod H W := by
  funext y
  have hy : (y 1).val < 1024 := (y 1).isLt
  refine (part_sum h w c _ _).trans ?_
  unfold prod
  rw [Fin.sum_univ_tiles 8 2048 rfl]
  refine Finset.sum_congr rfl fun d _ => ?_
  rw [chunk_eq _ _ _ (by omega)]
  refine Finset.sum_congr rfl fun t _ => congrArg₂ (· * ·) (hh d (y 0) t) ?_
  have e : (⟨256 * ((y 1).val / 256) + (y 1).val % 256, by omega⟩ : Fin 1024) = y 1 := Fin.ext (Nat.div_add_mod _ _)
  refine Eq.trans (congrArg (fun n : Fin 1024 => w d (ix2 (n0 := 2048) (n1 := 1024) t n)) e) (hw d t (y 1))

/-! ## The kernel's value -/

/-- One layer: from the whole input of the layer, the whole output. -/
def layer (X : (⟨2, ![64, 1024]⟩ : Shape).Idx → EReal) (W : (⟨2, ![1024, 16384]⟩ : Shape).Idx → EReal) (V : (⟨2, ![16384, 1024]⟩ : Shape).Idx → EReal) :
    (⟨2, ![64, 1024]⟩ : Shape).Idx → EReal := prod (relu (prod X W)) V

/-- Every device ends with the three layers of the whole matrices, when it starts with its blocks of them. -/
theorem outVal_eq (I : Inputs Ideal) (X : (⟨2, ![64, 1024]⟩ : Shape).Idx → EReal) (W : Fin 3 → (⟨2, ![1024, 16384]⟩ : Shape).Idx → EReal)
    (V : Fin 3 → (⟨2, ![16384, 1024]⟩ : Shape).Idx → EReal) (hx : ∀ c, I.x c = X) (hW : ∀ l, ColBlocks (a := 1024) (I.wi l) (W l))
    (hV : ∀ l, RowBlocks (b := 1024) (I.wo l) (V l)) (c : Dev nD) :
    outVal I c = layer (layer (layer X (W 0) (V 0)) (W 1) (V 1)) (W 2) (V 2) := by
  have h0 : ColBlocks (a := 64) (hid I 0) (relu (prod X (W 0))) := fun c r t => by
    have e : hid I 0 c = relu (prod (a := 64) (k := 1024) (b := 2048) X (I.wi 0 c)) := (first_eq (I.x c) (I.wi 0 c)).trans (by rw [hx])
    rw [e]
    exact (hW 0).hidden X c r t
  have next (h : Dev nD → FVec Ideal S64x2048 .bf16) (H : (⟨2, ![64, 16384]⟩ : Shape).Idx → EReal) (l l' : Fin 3) (hh : ColBlocks (a := 64) h H) :
      ColBlocks (a := 64) (step (I.wo l) (I.wi l') h) (relu (prod (prod H (V l)) (W l'))) := fun c r t => by
    have e : step (I.wo l) (I.wi l') h c = relu (prod (a := 64) (k := 1024) (b := 2048) (prod H (V l)) (I.wi l' c)) :=
      (next_eq (I.wi l' c) (part (F := Ideal) h (I.wo l) 3 c)).trans (by rw [beside_eq hh (hV l) c])
    rw [e]
    exact (hW l').hidden (prod H (V l)) c r t
  exact beside_eq (next _ _ 1 2 (next _ _ 0 1 h0)) (hV 2) c

end Cert.KernelIdeal.Mlp

end
-- ==== Proof.Value.lean ====
/-
# The value

The kernel's result read off its last window, the reference's read as the same three layers, and the two runs side by side.
-/
module

public import proofs.«01_k».proof.Defs
public import proofs.«01_k».proof.Proof.Launch
public import proofs.«01_k».proof.Proof.Algebra
public import proofs.«01_k».proof.Proof.Gen.ReferenceIdeal.Run

@[expose] public section

noncomputable section

/-! ## The kernel's last window -/

namespace Cert.KernelIdeal.Mlp

open Cert.KernelIdeal Cert.KernelIdeal.Gen
open Idealize.ShloMosaic Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

omit [FloatOps F] in
/-- The block that is the whole of a buffer, at block index 0, reads the buffer. -/
theorem read_block (b : Ref sig .tc) (inb : ∀ a, 0 * b.ty.shape.size a + b.ty.shape.size a ≤ b.ty.shape.size a) (f : b.ty.Contents (Elt F)) :
    ((View.whole b).slice (Rect.unit (fun a => 0 * b.ty.shape.size a) b.ty.shape.size inb)).read (Elt F) f = f := by
  funext i
  refine (View.read_apply _ _).trans ?_
  show f ((Rect.unit (s := b.ty.shape) (fun a => 0 * b.ty.shape.size a) b.ty.shape.size inb).emb i) = f i
  refine congrArg f (funext fun a => Fin.ext ?_)
  rw [Rect.emb_apply]
  show 0 * b.ty.shape.size a + 1 * (i a).val = (i a).val
  omega
/-- It covers the buffer. -/
theorem mem_block (b : Ref sig .tc) (inb : ∀ a, 0 * b.ty.shape.size a + b.ty.shape.size a ≤ b.ty.shape.size a) (i : b.ty.shape.Idx) :
    i ∈ ((View.whole b).slice (Rect.unit (fun a => 0 * b.ty.shape.size a) b.ty.shape.size inb)).set := by
  rw [View.set_slice_whole, Rect.mem_set_unit]
  exact fun a => ⟨by omega, by have := (i a).isLt; omega⟩

/-- The result array ends holding what the body left in its window. -/
theorem final_eq (c : Dev nD) : finalA m ρ c (7 : Fin 8) = outVal (inp m) c :=
  (dats (F := F) m ρ 0 c).arrAt_eq_of_cover (7 : Fin 8) (outVal (inp m) c)
    (fun t _ => (read_block main_v1 (fun a => by omega) (outVal (inp m) c)).symm) fun i => ⟨t0_0, flush0_7 t0_0, mem_block main_v1 (fun a => by omega) i⟩

omit [FloatOps F] in
/-- The staged inputs are the arguments: `x`, -/
theorem inp_x (c : Dev nD) : (inp m).x c = m ((c : Thread nD τ).loc main_arg0) := (show (win0_0.blk t0_0).view.read (Elt F) (m ((c : Thread nD τ).loc main_arg0)) = _ from
    read_block (F := F) main_arg0 (fun a => by omega) (m ((c : Thread nD τ).loc main_arg0)))
omit [FloatOps F] in
/-- each layer's first weights, -/
theorem inp_wi (c : Dev nD) : (inp m).wi 0 c = m ((c : Thread nD τ).loc main_arg1) ∧ (inp m).wi 1 c = m ((c : Thread nD τ).loc main_arg3)
    ∧ (inp m).wi 2 c = m ((c : Thread nD τ).loc main_arg5) :=
  ⟨(show (win0_1.blk t0_0).view.read (Elt F) (m ((c : Thread nD τ).loc main_arg1)) = _ from
    read_block (F := F) main_arg1 (fun a => by omega) (m ((c : Thread nD τ).loc main_arg1))), (show (win0_3.blk t0_0).view.read (Elt F) (m ((c : Thread nD τ).loc main_arg3)) = _ from
    read_block (F := F) main_arg3 (fun a => by omega) (m ((c : Thread nD τ).loc main_arg3))), (show (win0_5.blk t0_0).view.read (Elt F) (m ((c : Thread nD τ).loc main_arg5)) = _ from
    read_block (F := F) main_arg5 (fun a => by omega) (m ((c : Thread nD τ).loc main_arg5)))⟩
omit [FloatOps F] in
/-- and each layer's second weights. -/
theorem inp_wo (c : Dev nD) : (inp m).wo 0 c = m ((c : Thread nD τ).loc main_arg2) ∧ (inp m).wo 1 c = m ((c : Thread nD τ).loc main_arg4)
    ∧ (inp m).wo 2 c = m ((c : Thread nD τ).loc main_arg6) :=
  ⟨(show (win0_2.blk t0_0).view.read (Elt F) (m ((c : Thread nD τ).loc main_arg2)) = _ from
    read_block (F := F) main_arg2 (fun a => by omega) (m ((c : Thread nD τ).loc main_arg2))), (show (win0_4.blk t0_0).view.read (Elt F) (m ((c : Thread nD τ).loc main_arg4)) = _ from
    read_block (F := F) main_arg4 (fun a => by omega) (m ((c : Thread nD τ).loc main_arg4))), (show (win0_6.blk t0_0).view.read (Elt F) (m ((c : Thread nD τ).loc main_arg6)) = _ from
    read_block (F := F) main_arg6 (fun a => by omega) (m ((c : Thread nD τ).loc main_arg6)))⟩

end Cert.KernelIdeal.Mlp

/-! ## The reference -/

namespace Cert.Mlp

open Idealize.ShloMosaic Idealize.SL.Sem
open Cert.KernelIdeal.Mlp (prod relu layer dot_prod ColBlocks RowBlocks)

/-- The host's positive part. -/
theorem host_relu (hb : Cert.ReferenceIdeal.S_.BroadcastsInDim Cert.ReferenceIdeal.S64x16384 (![] : Fin 0 → Fin Cert.ReferenceIdeal.S64x16384.rank)) (A : FVec Ideal Cert.ReferenceIdeal.S64x16384 .f32) :
    maximumf A (broadcastInDim Cert.ReferenceIdeal.S64x16384 ![] hb (constant (F := Ideal) Cert.ReferenceIdeal.S_ .f32 0x00000000#32)) = relu A :=
  funext fun i => congrArg (max (A i : EReal)) Ideal.ofBits_zero_f32

/-- One layer as the host computes it. -/
theorem host_layer (hb : Cert.ReferenceIdeal.S_.BroadcastsInDim Cert.ReferenceIdeal.S64x16384 (![] : Fin 0 → Fin Cert.ReferenceIdeal.S64x16384.rank))
    (X : FVec Ideal Cert.ReferenceIdeal.S64x1024 .f32) (W : FVec Ideal Cert.ReferenceIdeal.S1024x16384 .f32) (V : FVec Ideal Cert.ReferenceIdeal.S16384x1024 .f32) :
    Host.dotGeneral Cert.ReferenceIdeal.dot_S64x16384_S16384x1024_S64x1024_1_0_0_1_n_n none
      (maximumf (Host.dotGeneral Cert.ReferenceIdeal.dot_S64x1024_S1024x16384_S64x16384_1_0_0_1_n_n none X W)
        (broadcastInDim Cert.ReferenceIdeal.S64x16384 ![] hb (constant (F := Ideal) Cert.ReferenceIdeal.S_ .f32 0x00000000#32))) V
      = layer X W V := by
  rw [host_relu]
  refine (dot_prod (φ := .f32) (ψ := .f32) _ V).trans ?_
  exact congrArg (fun A => prod (relu A) V) (dot_prod (φ := .f32) (ψ := .f32) X W)

/-- The reference's frame: a straight line of host operations, with no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- A device's block along the columns of a whole matrix holds those columns, -/
theorem block_cols (B : Dev Cert.KernelIdeal.nD → (⟨2, ![1024, 2048]⟩ : Shape).Idx → EReal) (W : (⟨2, ![1024, 16384]⟩ : Shape).Idx → EReal)
    (ht : Layout.Tiles ⟨2, ![1024, 2048]⟩ ⟨2, ![1024, 16384]⟩ 1 8) (h : ∀ c, B c = Layout.block ⟨2, ![1024, 2048]⟩ ⟨2, ![1024, 16384]⟩ 1 8 c W ht) : ColBlocks (a := 1024) B W := fun c r t => by
  rw [h c, Layout.block_apply]
  refine congrArg W (funext fun a => Fin.ext ?_)
  match a with
  | ⟨0, _⟩ => exact (Layout.idx_cols_val ht c _).1
  | ⟨1, _⟩ => exact (Layout.idx_cols_val ht c _).2
/-- and a block along the rows those rows. -/
theorem block_rows (B : Dev Cert.KernelIdeal.nD → (⟨2, ![2048, 1024]⟩ : Shape).Idx → EReal) (V : (⟨2, ![16384, 1024]⟩ : Shape).Idx → EReal)
    (ht : Layout.Tiles ⟨2, ![2048, 1024]⟩ ⟨2, ![16384, 1024]⟩ 0 8) (h : ∀ c, B c = Layout.block ⟨2, ![2048, 1024]⟩ ⟨2, ![16384, 1024]⟩ 0 8 c V ht) : RowBlocks (b := 1024) B V := fun c t n => by
  rw [h c, Layout.block_apply]
  refine congrArg V (funext fun a => Fin.ext ?_)
  match a with
  | ⟨0, _⟩ => exact (Layout.idx_rows_val ht c _).1
  | ⟨1, _⟩ => exact (Layout.idx_rows_val ht c _).2

/-- From memories that agree, the program's devices each end with the three layers of the reference's arguments, and so does
the reference. -/
theorem value : Cert.algebraic_KernelIdeal_ReferenceIdeal := by
  intro m g m' g' _ hag
  let r := ((0 : Dev Cert.ReferenceIdeal.nD).tc : Thread Cert.ReferenceIdeal.nD Cert.ReferenceIdeal.τ)
  let W : Fin 3 → (⟨2, ![1024, 16384]⟩ : Shape).Idx → EReal := fun
    | 0 => m' (r.loc Cert.ReferenceIdeal.main_arg1) | 1 => m' (r.loc Cert.ReferenceIdeal.main_arg3) | 2 => m' (r.loc Cert.ReferenceIdeal.main_arg5)
  let V : Fin 3 → (⟨2, ![16384, 1024]⟩ : Shape).Idx → EReal := fun
    | 0 => m' (r.loc Cert.ReferenceIdeal.main_arg2) | 1 => m' (r.loc Cert.ReferenceIdeal.main_arg4) | 2 => m' (r.loc Cert.ReferenceIdeal.main_arg6)
  refine ⟨layer (layer (layer (m' (r.loc Cert.ReferenceIdeal.main_arg0)) (W 0) (V 0)) (W 1) (V 1)) (W 2) (V 2), ?_, ?_⟩
  · have hx (c : Dev Cert.KernelIdeal.nD) := (Cert.KernelIdeal.Mlp.inp_x (F := Ideal) m c).trans (hag c).1
    have hi (c : Dev Cert.KernelIdeal.nD) := Cert.KernelIdeal.Mlp.inp_wi (F := Ideal) m c
    have ho (c : Dev Cert.KernelIdeal.nD) := Cert.KernelIdeal.Mlp.inp_wo (F := Ideal) m c
    have hW (l : Fin 3) : ColBlocks (a := 1024) ((Cert.KernelIdeal.Mlp.inp (F := Ideal) m).wi l) (W l) := match l with
      | 0 => block_cols _ _ _ fun c => (hi c).1.trans (hag c).2.1
      | 1 => block_cols _ _ _ fun c => (hi c).2.1.trans (hag c).2.2.2.1
      | 2 => block_cols _ _ _ fun c => (hi c).2.2.trans (hag c).2.2.2.2.2.1
    have hV (l : Fin 3) : RowBlocks (b := 1024) ((Cert.KernelIdeal.Mlp.inp (F := Ideal) m).wo l) (V l) := match l with
      | 0 => block_rows _ _ _ fun c => (ho c).1.trans (hag c).2.2.1
      | 1 => block_rows _ _ _ fun c => (ho c).2.1.trans (hag c).2.2.2.2.1
      | 2 => block_rows _ _ _ fun c => (ho c).2.2.trans (hag c).2.2.2.2.2.2
    refine (θ_run Cert.KernelIdeal.defs _ _).mono (fun _ h c => ⟨(h.1 c).1.trans ?_, (h.1 c).2⟩) (Cert.KernelIdeal.Mlp.run_read (F := Ideal) m g)
    exact (Cert.KernelIdeal.Mlp.final_eq m g c).trans (Cert.KernelIdeal.Mlp.outVal_eq _ _ W V hx hW hV c)
  · refine (θ_run Cert.ReferenceIdeal.defs _ _).mono (fun _ h => ⟨(h 0).1.trans ?_, (h 0).2⟩) (Cert.ReferenceIdeal.Value.run (F := Ideal) m' g')
    refine (host_layer _ _ _ _).trans (congrArg (fun A => layer A _ _) ?_)
    refine (host_layer _ _ _ _).trans (congrArg (fun A => layer A _ _) ?_)
    exact host_layer _ _ _ _

end Cert.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The three programs' frames, the idealization, and the kernel's value against the reference's. -/
theorem claim : Cert.Claim := ⟨Cert.Kernel.Gen.facts, Cert.KernelIdeal.Gen.facts, Cert.ReferenceIdeal.Gen.facts,
  Cert.Mlp.frame_bits, Cert.Mlp.frame_ideal, Cert.Mlp.frame_reference, trivial, Cert.Mlp.value⟩

end Cert.Proof

end
